-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v94) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v100) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "per_head" .f32 0x3C2AAAAB#32 ((96⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_v125) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_routed.lean ====
abbrev S144 : Shape := ⟨1, ![144]⟩
abbrev S73728x1152 : Shape := ⟨2, ![73728, 1152]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : IVec S144 32) (main_arg2 : FVec F S73728x1152 .f32) (main_arg3 : FVec F S8x1024x2816 .bf16) (main_arg4 : FVec F S8x1024x2816 .bf16) (main_arg5 : FVec F S8x2816x1024 .bf16) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 8#32
  let main_v2 : IVec S144 32 := broadcastInDim S144 ![] bcast_S_S144 main_c_0
  let main_v3 : IVec S144 1 := cmpi .slt main_arg0 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  let main_c_2 : IVec S_ 32 := constantI S_ 32 0#32
  let main_v6 : IVec S144 32 := broadcastInDim S144 ![] bcast_S_S144 main_c_2
  let main_v7 : IVec S144 1 := cmpi .sge main_arg1 main_v6
  let main_c_3 : IVec S_ 1 := constantI S_ 1 1#1
  let main_v8 : IVec S_ 1 := (fun x v => Host.reduce IntOp.andi x v reducesTo_S144_S_d0 h_S_) main_v7 main_c_3
  let main_v9 : IVec S_ 1 := andi main_v5 main_v8
  main_v9
-- ==== Kernel.lean ====
abbrev S144 : Shape := ⟨1, ![144]⟩
abbrev S73728x1152 : Shape := ⟨2, ![73728, 1152]⟩
abbrev S8x1024x2816 : Shape := ⟨3, ![8, 1024, 2816]⟩
abbrev S8x2816x1024 : Shape := ⟨3, ![8, 2816, 1024]⟩
abbrev S73728x1024 : Shape := ⟨2, ![73728, 1024]⟩
abbrev S512x1152 : Shape := ⟨2, ![512, 1152]⟩
abbrev S1x1024x2816 : Shape := ⟨3, ![1, 1024, 2816]⟩
abbrev S1 : Shape := ⟨1, ![1]⟩
abbrev S1x2816x1024 : Shape := ⟨3, ![1, 2816, 1024]⟩
abbrev S512x1024 : Shape := ⟨2, ![512, 1024]⟩
abbrev S512x2816 : Shape := ⟨2, ![512, 2816]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩
abbrev S512x128 : Shape := ⟨2, ![512, 128]⟩
abbrev S512x1 : Shape := ⟨2, ![512, 1]⟩

abbrev nBuf : Space → Nat
  | .hbm => 5
  | .vmem => 11
  | .smem => 2
  | _ => 0

abbrev bufTy : (tb : Table) → Fin (tcTables nBuf tb) → BufTy
  | .hbm, ⟨0, _⟩ => ⟨S73728x1152, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S73728x1024, .f32⟩
  | .local _ .vmem, ⟨0, _⟩ => ⟨S512x1152, .f32⟩
  | .local _ .vmem, ⟨1, _⟩ => ⟨S512x1152, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .smem, ⟨0, _⟩ => ⟨S144, .i32⟩
  | .local _ .smem, ⟨1, _⟩ => ⟨S144, .i32⟩
  | _, _ => ⟨S73728x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v161 : Index := Scalar.indexCast arg0
  ![v161.toNat]
def k0_off3 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S144 : Shape := ⟨1, ![144]⟩
abbrev S73728x1152 : Shape := ⟨2, ![73728, 1152]⟩
abbrev S8x1024x2816 : Shape := ⟨3, ![8, 1024, 2816]⟩
abbrev S8x2816x1024 : Shape := ⟨3, ![8, 2816, 1024]⟩
abbrev S144x512x1152 : Shape := ⟨3, ![144, 512, 1152]⟩
abbrev S144x512x1024 : Shape := ⟨3, ![144, 512, 1024]⟩
abbrev S144x512x128 : Shape := ⟨3, ![144, 512, 128]⟩
abbrev S_ : Shape := ⟨0, ![]⟩
abbrev S144x1 : Shape := ⟨2, ![144, 1]⟩
abbrev S144x1024x2816 : Shape := ⟨3, ![144, 1024, 2816]⟩
abbrev S144x2816x1024 : Shape := ⟨3, ![144, 2816, 1024]⟩
abbrev S144x512x2816 : Shape := ⟨3, ![144, 512, 2816]⟩
abbrev S144x512x1 : Shape := ⟨3, ![144, 512, 1]⟩
abbrev S144x1x1 : Shape := ⟨3, ![144, 1, 1]⟩
abbrev S73728x1024 : Shape := ⟨2, ![73728, 1024]⟩

abbrev nBuf : Space → Nat
  | .hbm => 72
  | .vmem => 0
  | .smem => 0
  | _ => 0

abbrev bufTy : (tb : Table) → Fin (tcTables nBuf tb) → BufTy
  | .hbm, ⟨0, _⟩ => ⟨S144, .i32⟩
  | .hbm, ⟨1, _⟩ => ⟨S144, .i32⟩
  | .hbm, ⟨2, _⟩ => ⟨S73728x1152, .f32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S144x512x1152, .f32⟩
  | .hbm, ⟨7, _⟩ => ⟨S144x512x1024, .f32⟩
  | .hbm, ⟨8, _⟩ => ⟨S144x512x128, .f32⟩
  | .hbm, ⟨9, _⟩ => ⟨S8x1024x2816, .f32⟩
  | .hbm, ⟨10, _⟩ => ⟨S_, .i32⟩
  | .hbm, ⟨11, _⟩ => ⟨S144, .i32⟩
  | .hbm, ⟨12, _⟩ => ⟨S144, .i1⟩
  | .hbm, ⟨13, _⟩ => ⟨S_, .i32⟩
  | .hbm, ⟨14, _⟩ => ⟨S144, .i32⟩
  | .hbm, ⟨15, _⟩ => ⟨S144, .i32⟩
  | .hbm, ⟨16, _⟩ => ⟨S144, .i32⟩
  | .hbm, ⟨17, _⟩ => ⟨S144x1, .i32⟩
  | .hbm, ⟨18, _⟩ => ⟨S144x1024x2816, .f32⟩
  | .hbm, ⟨19, _⟩ => ⟨S8x1024x2816, .f32⟩
  | .hbm, ⟨20, _⟩ => ⟨S_, .i32⟩
  | .hbm, ⟨21, _⟩ => ⟨S144, .i32⟩
  | .hbm, ⟨22, _⟩ => ⟨S144, .i1⟩
  | .hbm, ⟨23, _⟩ => ⟨S_, .i32⟩
  | .hbm, ⟨24, _⟩ => ⟨S144, .i32⟩
  | .hbm, ⟨25, _⟩ => ⟨S144, .i32⟩
  | .hbm, ⟨26, _⟩ => ⟨S144, .i32⟩
  | .hbm, ⟨27, _⟩ => ⟨S144x1, .i32⟩
  | .hbm, ⟨28, _⟩ => ⟨S144x1024x2816, .f32⟩
  | .hbm, ⟨29, _⟩ => ⟨S8x2816x1024, .f32⟩
  | .hbm, ⟨30, _⟩ => ⟨S_, .i32⟩
  | .hbm, ⟨31, _⟩ => ⟨S144, .i32⟩
  | .hbm, ⟨32, _⟩ => ⟨S144, .i1⟩
  | .hbm, ⟨33, _⟩ => ⟨S_, .i32⟩
  | .hbm, ⟨34, _⟩ => ⟨S144, .i32⟩
  | .hbm, ⟨35, _⟩ => ⟨S144, .i32⟩
  | .hbm, ⟨36, _⟩ => ⟨S144, .i32⟩
  | .hbm, ⟨37, _⟩ => ⟨S144x1, .i32⟩
  | .hbm, ⟨38, _⟩ => ⟨S144x2816x1024, .f32⟩
  | .hbm, ⟨39, _⟩ => ⟨S144x512x2816, .f32⟩
  | .hbm, ⟨40, _⟩ => ⟨S144x512x2816, .f32⟩
  | .hbm, ⟨41, _⟩ => ⟨S144x512x2816, .f32⟩
  | .hbm, ⟨42, _⟩ => ⟨S144x512x2816, .f32⟩
  | .hbm, ⟨43, _⟩ => ⟨S_, .f32⟩
  | .hbm, ⟨44, _⟩ => ⟨S144x512x2816, .f32⟩
  | .hbm, ⟨45, _⟩ => ⟨S144x512x2816, .f32⟩
  | .hbm, ⟨46, _⟩ => ⟨S_, .f32⟩
  | .hbm, ⟨47, _⟩ => ⟨S144x512x2816, .f32⟩
  | .hbm, ⟨48, _⟩ => ⟨S144x512x2816, .f32⟩
  | .hbm, ⟨49, _⟩ => ⟨S144x512x2816, .f32⟩
  | .hbm, ⟨50, _⟩ => ⟨S144x512x2816, .f32⟩
  | .hbm, ⟨51, _⟩ => ⟨S144x512x1024, .f32⟩
  | .hbm, ⟨52, _⟩ => ⟨S144x512x1, .f32⟩
  | .hbm, ⟨53, _⟩ => ⟨S144, .f32⟩
  | .hbm, ⟨54, _⟩ => ⟨S144x1x1, .f32⟩
  | .hbm, ⟨55, _⟩ => ⟨S144x512x1, .f32⟩
  | .hbm, ⟨56, _⟩ => ⟨S144x512x1, .i1⟩
  | .hbm, ⟨57, _⟩ => ⟨S144x512x1, .f32⟩
  | .hbm, ⟨58, _⟩ => ⟨S144x512x1, .f32⟩
  | .hbm, ⟨59, _⟩ => ⟨S144x512x1, .f32⟩
  | .hbm, ⟨60, _⟩ => ⟨S144x512x1024, .f32⟩
  | .hbm, ⟨61, _⟩ => ⟨S144x512x1024, .f32⟩
  | .hbm, ⟨62, _⟩ => ⟨S144x1x1, .i32⟩
  | .hbm, ⟨63, _⟩ => ⟨S_, .i32⟩
  | .hbm, ⟨64, _⟩ => ⟨S144x1x1, .i32⟩
  | .hbm, ⟨65, _⟩ => ⟨S144x1x1, .i1⟩
  | .hbm, ⟨66, _⟩ => ⟨S_, .f32⟩
  | .hbm, ⟨67, _⟩ => ⟨S_, .f32⟩
  | .hbm, ⟨68, _⟩ => ⟨S144x512x1024, .i1⟩
  | .hbm, ⟨69, _⟩ => ⟨S144x512x1024, .f32⟩
  | .hbm, ⟨70, _⟩ => ⟨S144x512x1024, .f32⟩
  | .hbm, ⟨71, _⟩ => ⟨S73728x1024, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Kernel2.lean ====
abbrev S34816x1024 : Shape := ⟨2, ![34816, 1024]⟩
abbrev S4x16x8x1024 : Shape := ⟨4, ![4, 16, 8, 1024]⟩
abbrev S1024x2816 : Shape := ⟨2, ![1024, 2816]⟩
abbrev S2816x1024 : Shape := ⟨2, ![2816, 1024]⟩
abbrev S1024x1024 : Shape := ⟨2, ![1024, 1024]⟩
abbrev S1x16x8x1024 : Shape := ⟨4, ![1, 16, 8, 1024]⟩
abbrev S1024x256 : Shape := ⟨2, ![1024, 256]⟩
abbrev S1x1x8x1024 : Shape := ⟨4, ![1, 1, 8, 1024]⟩
abbrev S8x1024 : Shape := ⟨2, ![8, 1024]⟩
abbrev S1x1024 : Shape := ⟨2, ![1, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S34816x1024, .bf16⟩
  | .hbm, ⟨1, _⟩ => ⟨S34816x1024, .f32⟩
  | .hbm, ⟨2, _⟩ => ⟨S4x16x8x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S34816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x16x8x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![34], ![false]⟩

def k0_off1 (i : grid0.Coords) (c0_i32 : BitVec 32) : Fin 4 → Nat :=
  let c0_95 : Index := 0#32
  let arg0 : BitVec 32 := BitVec.ofNat 32 (i 0).val
  let c4_i32 : BitVec 32 := 4#32
  let v125 : BitVec 32 := Scalar.muli arg0 c4_i32
  let v126 : BitVec 32 := Scalar.addi v125 c0_i32
  let c17_i32 : BitVec 32 := 17#32
  let c0_i32_83 : BitVec 32 := 0#32
  let v127 : BitVec 1 := Scalar.cmpi .eq c17_i32 c0_i32_83
  let c1_i32 : BitVec 32 := 1#32
  let v128 : BitVec 32 := Scalar.select v127 c1_i32 c17_i32
  let v129 : BitVec 32 := Scalar.remsi v126 v128
  let c0_i32_85 : BitVec 32 := 0#32
  let v131 : BitVec 1 := Scalar.cmpi .slt v129 c0_i32_85
  let c0_i32_86 : BitVec 32 := 0#32
  let v132 : BitVec 1 := Scalar.cmpi .slt v128 c0_i32_86
  let v133 : BitVec 1 := Scalar.xori v131 v132
  let c0_i32_84 : BitVec 32 := 0#32
  let v130 : BitVec 1 := Scalar.cmpi .ne v129 c0_i32_84
  let v134 : BitVec 1 := Scalar.andi v133 v130
  let v135 : BitVec 32 := Scalar.addi v129 v128
  let v136 : BitVec 32 := Scalar.select v134 v135 v129
  let c1_i32_87 : BitVec 32 := 1#32
  let v137 : BitVec 1 := Scalar.cmpi .slt v136 c1_i32_87
  let c8_i32 : BitVec 32 := 8#32
  let c0_i32_89 : BitVec 32 := 0#32
  let v139 : BitVec 1 := Scalar.cmpi .sgt v126 c0_i32_89
  let v140 : BitVec 32 := Scalar.extui v139
  let c0_i32_90 : BitVec 32 := 0#32
  let v141 : BitVec 1 := Scalar.cmpi .slt v126 c0_i32_90
  let v142 : BitVec 32 := Scalar.extui v141
  let v143 : BitVec 32 := Scalar.subi v140 v142
  let c17_i32_88 : BitVec 32 := 17#32
  let c0_i32_91 : BitVec 32 := 0#32
  let v144 : BitVec 1 := Scalar.cmpi .sgt c17_i32_88 c0_i32_91
  let v145 : BitVec 32 := Scalar.extui v144
  let c0_i32_92 : BitVec 32 := 0#32
  let v146 : BitVec 1 := Scalar.cmpi .slt c17_i32_88 c0_i32_92
  let v147 : BitVec 32 := Scalar.extui v146
  let v148 : BitVec 32 := Scalar.subi v145 v147
  let v149 : BitVec 1 := Scalar.cmpi .ne v143 v148
  let v150 : BitVec 32 := Scalar.remsi v126 c17_i32_88
  let c0_i32_93 : BitVec 32 := 0#32
  let v151 : BitVec 1 := Scalar.cmpi .ne v150 c0_i32_93
  let v152 : BitVec 1 := Scalar.andi v149 v151
  let v138 : BitVec 32 := Scalar.divsi v126 c17_i32_88
  let c1_i32_94 : BitVec 32 := 1#32
  let v153 : BitVec 32 := Scalar.subi v138 c1_i32_94
  let v154 : BitVec 32 := Scalar.select v152 v153 v138
  let v155 : BitVec 32 := Scalar.select v137 c8_i32 v154
  let v156 : Index := Scalar.indexCast v155
  let c0_96 : Index := 0#32
  let c0_97 : Index := 0#32
  ![0, v156.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S34816x1024 : Shape := ⟨2, ![34816, 1024]⟩
abbrev S4x16x8x1024 : Shape := ⟨4, ![4, 16, 8, 1024]⟩
abbrev S1024x2816 : Shape := ⟨2, ![1024, 2816]⟩
abbrev S2816x1024 : Shape := ⟨2, ![2816, 1024]⟩
abbrev S34816x2816 : Shape := ⟨2, ![34816, 2816]⟩
abbrev S_ : Shape := ⟨0, ![]⟩
abbrev S1x1x1x1024 : Shape := ⟨4, ![1, 1, 1, 1024]⟩
abbrev S1024 : Shape := ⟨1, ![1024]⟩
abbrev S8x256x1024 : Shape := ⟨3, ![8, 256, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x4096x1024 : Shape := ⟨3, ![8, 4096, 1024]⟩
abbrev S8x4352x1024 : Shape := ⟨3, ![8, 4352, 1024]⟩

abbrev nBuf : Space → Nat
  | .hbm => 35
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S34816x1024, .f32⟩
  | .hbm, ⟨2, _⟩ => ⟨S4x16x8x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S34816x1024, .f32⟩
  | .hbm, ⟨7, _⟩ => ⟨S1024x2816, .f32⟩
  | .hbm, ⟨8, _⟩ => ⟨S34816x2816, .f32⟩
  | .hbm, ⟨9, _⟩ => ⟨S34816x1024, .f32⟩
  | .hbm, ⟨10, _⟩ => ⟨S1024x2816, .f32⟩
  | .hbm, ⟨11, _⟩ => ⟨S34816x2816, .f32⟩
  | .hbm, ⟨12, _⟩ => ⟨S34816x2816, .f32⟩
  | .hbm, ⟨13, _⟩ => ⟨S34816x2816, .f32⟩
  | .hbm, ⟨14, _⟩ => ⟨S_, .f32⟩
  | .hbm, ⟨15, _⟩ => ⟨S34816x2816, .f32⟩
  | .hbm, ⟨16, _⟩ => ⟨S34816x2816, .f32⟩
  | .hbm, ⟨17, _⟩ => ⟨S_, .f32⟩
  | .hbm, ⟨18, _⟩ => ⟨S34816x2816, .f32⟩
  | .hbm, ⟨19, _⟩ => ⟨S34816x2816, .f32⟩
  | .hbm, ⟨20, _⟩ => ⟨S34816x2816, .f32⟩
  | .hbm, ⟨21, _⟩ => ⟨S34816x2816, .f32⟩
  | .hbm, ⟨22, _⟩ => ⟨S2816x1024, .f32⟩
  | .hbm, ⟨23, _⟩ => ⟨S34816x1024, .f32⟩
  | .hbm, ⟨24, _⟩ => ⟨S1x1x1x1024, .f32⟩
  | .hbm, ⟨25, _⟩ => ⟨S1024, .f32⟩
  | .hbm, ⟨26, _⟩ => ⟨S8x256x1024, .f32⟩
  | .hbm, ⟨27, _⟩ => ⟨S1x8x1x1024, .f32⟩
  | .hbm, ⟨28, _⟩ => ⟨S8x1024, .f32⟩
  | .hbm, ⟨29, _⟩ => ⟨S8x1x1024, .f32⟩
  | .hbm, ⟨30, _⟩ => ⟨S8x4096x1024, .f32⟩
  | .hbm, ⟨31, _⟩ => ⟨S8x4352x1024, .f32⟩
  | .hbm, ⟨32, _⟩ => ⟨S34816x1024, .f32⟩
  | .hbm, ⟨33, _⟩ => ⟨S34816x1024, .f32⟩
  | .hbm, ⟨34, _⟩ => ⟨S34816x1024, .f32⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel3.lean ====
abbrev S34816x1024 : Shape := ⟨2, ![34816, 1024]⟩
abbrev S4x16x8x1024 : Shape := ⟨4, ![4, 16, 8, 1024]⟩
abbrev S1x1024 : Shape := ⟨2, ![1, 1024]⟩
abbrev S1024x4224 : Shape := ⟨2, ![1024, 4224]⟩
abbrev S16x1024 : Shape := ⟨2, ![16, 1024]⟩
abbrev S8x1024 : Shape := ⟨2, ![8, 1024]⟩
abbrev S34816x1664 : Shape := ⟨2, ![34816, 1664]⟩
abbrev S34816x256 : Shape := ⟨2, ![34816, 256]⟩
abbrev S34816x1280 : Shape := ⟨2, ![34816, 1280]⟩
abbrev S16x34816 : Shape := ⟨2, ![16, 34816]⟩
abbrev S512x1024 : Shape := ⟨2, ![512, 1024]⟩
abbrev S1x16x8x1024 : Shape := ⟨4, ![1, 16, 8, 1024]⟩
abbrev S512x1664 : Shape := ⟨2, ![512, 1664]⟩
abbrev S512x256 : Shape := ⟨2, ![512, 256]⟩
abbrev S512x1280 : Shape := ⟨2, ![512, 1280]⟩
abbrev S16x512 : Shape := ⟨2, ![16, 512]⟩
abbrev S1x1x8x1024 : Shape := ⟨4, ![1, 1, 8, 1024]⟩
abbrev S256x1024 : Shape := ⟨2, ![256, 1024]⟩
abbrev S256 : Shape := ⟨1, ![256]⟩
abbrev S256x1 : Shape := ⟨2, ![256, 1]⟩
abbrev S1024x1664 : Shape := ⟨2, ![1024, 1664]⟩
abbrev S1024x256 : Shape := ⟨2, ![1024, 256]⟩
abbrev S1024x1280 : Shape := ⟨2, ![1024, 1280]⟩
abbrev S8 : Shape := ⟨1, ![8]⟩
abbrev S8x1 : Shape := ⟨2, ![8, 1]⟩
abbrev S528x1024 : Shape := ⟨2, ![528, 1024]⟩
abbrev S1024x1024 : Shape := ⟨2, ![1024, 1024]⟩

abbrev nBuf : Space → Nat
  | .hbm => 13
  | .vmem => 23
  | .smem => 0
  | _ => 0

abbrev bufTy : (tb : Table) → Fin (tcTables nBuf tb) → BufTy
  | .hbm, ⟨0, _⟩ => ⟨S34816x1024, .f32⟩
  | .hbm, ⟨1, _⟩ => ⟨S4x16x8x1024, .f32⟩
  | .hbm, ⟨2, _⟩ => ⟨S1x1024, .f32⟩
  | .hbm, ⟨3, _⟩ => ⟨S1024x4224, .bf16⟩
  | .hbm, ⟨4, _⟩ => ⟨S16x1024, .bf16⟩
  | .hbm, ⟨5, _⟩ => ⟨S8x1024, .f32⟩
  | .hbm, ⟨6, _⟩ => ⟨S1x1024, .f32⟩
  | .hbm, ⟨7, _⟩ => ⟨S1x1024, .f32⟩
  | .hbm, ⟨8, _⟩ => ⟨S34816x1664, .f32⟩
  | .hbm, ⟨9, _⟩ => ⟨S34816x256, .f32⟩
  | .hbm, ⟨10, _⟩ => ⟨S34816x1280, .f32⟩
  | .hbm, ⟨11, _⟩ => ⟨S34816x1024, .f32⟩
  | .hbm, ⟨12, _⟩ => ⟨S16x34816, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x16x8x1024, .f32⟩
  | .local _ .vmem, ⟨7, _⟩ => ⟨S1x1024, .f32⟩
  | .local _ .vmem, ⟨8, _⟩ => ⟨S1024x4224, .bf16⟩
  | .local _ .vmem, ⟨9, _⟩ => ⟨S16x1024, .bf16⟩
  | .local _ .vmem, ⟨10, _⟩ => ⟨S8x1024, .f32⟩
  | .local _ .vmem, ⟨11, _⟩ => ⟨S1x1024, .f32⟩
  | .local _ .vmem, ⟨12, _⟩ => ⟨S1x1024, .f32⟩
  | .local _ .vmem, ⟨13, _⟩ => ⟨S512x1664, .f32⟩
  | .local _ .vmem, ⟨14, _⟩ => ⟨S512x1664, .f32⟩
  | .local _ .vmem, ⟨15, _⟩ => ⟨S512x256, .f32⟩
  | .local _ .vmem, ⟨16, _⟩ => ⟨S512x256, .f32⟩
  | .local _ .vmem, ⟨17, _⟩ => ⟨S512x1280, .f32⟩
  | .local _ .vmem, ⟨18, _⟩ => ⟨S512x1280, .f32⟩
  | .local _ .vmem, ⟨19, _⟩ => ⟨S512x1024, .f32⟩
  | .local _ .vmem, ⟨20, _⟩ => ⟨S512x1024, .f32⟩
  | .local _ .vmem, ⟨21, _⟩ => ⟨S16x512, .f32⟩
  | .local _ .vmem, ⟨22, _⟩ => ⟨S16x512, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![68], ![false]⟩

def k0_off1 (i : grid0.Coords) (c0_i32 : BitVec 32) : Fin 4 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let c17_i32 : BitVec 32 := 17#32
  let c0_i32_1 : BitVec 32 := 0#32
  let v4 : BitVec 1 := Scalar.cmpi .eq c17_i32 c0_i32_1
  let c1_i32_2 : BitVec 32 := 1#32
  let v5 : BitVec 32 := Scalar.select v4 c1_i32_2 c17_i32
  let v6 : BitVec 32 := Scalar.remsi v1 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .slt v13 c1_i32_6
  let c8_i32 : BitVec 32 := 8#32
  let c0_i32_8 : BitVec 32 := 0#32
  let v16 : BitVec 1 := Scalar.cmpi .sgt v1 c0_i32_8
  let v17 : BitVec 32 := Scalar.extui v16
  let c0_i32_9 : BitVec 32 := 0#32
  let v18 : BitVec 1 := Scalar.cmpi .slt v1 c0_i32_9
  let v19 : BitVec 32 := Scalar.extui v18
  let v20 : BitVec 32 := Scalar.subi v17 v19
  let c17_i32_7 : BitVec 32 := 17#32
  let c0_i32_10 : BitVec 32 := 0#32
  let v21 : BitVec 1 := Scalar.cmpi .sgt c17_i32_7 c0_i32_10
  let v22 : BitVec 32 := Scalar.extui v21
  let c0_i32_11 : BitVec 32 := 0#32
  let v23 : BitVec 1 := Scalar.cmpi .slt c17_i32_7 c0_i32_11
  let v24 : BitVec 32 := Scalar.extui v23
  let v25 : BitVec 32 := Scalar.subi v22 v24
  let v26 : BitVec 1 := Scalar.cmpi .ne v20 v25
  let v27 : BitVec 32 := Scalar.remsi v1 c17_i32_7
  let c0_i32_12 : BitVec 32 := 0#32
  let v28 : BitVec 1 := Scalar.cmpi .ne v27 c0_i32_12
  let v29 : BitVec 1 := Scalar.andi v26 v28
  let v15 : BitVec 32 := Scalar.divsi v1 c17_i32_7
  let c1_i32_13 : BitVec 32 := 1#32
  let v30 : BitVec 32 := Scalar.subi v15 c1_i32_13
  let v31 : BitVec 32 := Scalar.select v29 v30 v15
  let v32 : BitVec 32 := Scalar.select v14 c8_i32 v31
  let v33 : Index := Scalar.indexCast v32
  let c0_14 : Index := 0#32
  let c0_15 : Index := 0#32
  ![0, v33.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4351_i32 : BitVec 32 := 4351#32
  let v2 : BitVec 32 := Scalar.minsi v1 c4351_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4224 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1664 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S34816x1024 : Shape := ⟨2, ![34816, 1024]⟩
abbrev S4x16x8x1024 : Shape := ⟨4, ![4, 16, 8, 1024]⟩
abbrev S1x1024 : Shape := ⟨2, ![1, 1024]⟩
abbrev S1024x4224 : Shape := ⟨2, ![1024, 4224]⟩
abbrev S16x1024 : Shape := ⟨2, ![16, 1024]⟩
abbrev S8x1024 : Shape := ⟨2, ![8, 1024]⟩
abbrev S_ : Shape := ⟨0, ![]⟩
abbrev S34816 : Shape := ⟨1, ![34816]⟩
abbrev S34816x1 : Shape := ⟨2, ![34816, 1]⟩
abbrev S1x1x1x1024 : Shape := ⟨4, ![1, 1, 1, 1024]⟩
abbrev S1024 : Shape := ⟨1, ![1024]⟩
abbrev S8x256x1024 : Shape := ⟨3, ![8, 256, 1024]⟩
abbrev S1x8x1x1024 : Shape := ⟨4, ![1, 8, 1, 1024]⟩
abbrev S8x1x1024 : Shape := ⟨3, ![8, 1, 1024]⟩
abbrev S8x4096x1024 : Shape := ⟨3, ![8, 4096, 1024]⟩
abbrev S8x4352x1024 : Shape := ⟨3, ![8, 4352, 1024]⟩
abbrev S34816x4224 : Shape := ⟨2, ![34816, 4224]⟩
abbrev S8x258x1024 : Shape := ⟨3, ![8, 258, 1024]⟩
abbrev S1x1x1024 : Shape := ⟨3, ![1, 1, 1024]⟩
abbrev S8x4098x1024 : Shape := ⟨3, ![8, 4098, 1024]⟩
abbrev S34816x1664 : Shape := ⟨2, ![34816, 1664]⟩
abbrev S34816x256 : Shape := ⟨2, ![34816, 256]⟩
abbrev S34816x1280 : Shape := ⟨2, ![34816, 1280]⟩
abbrev S1024x16 : Shape := ⟨2, ![1024, 16]⟩
abbrev S34816x16 : Shape := ⟨2, ![34816, 16]⟩
abbrev S16x34816 : Shape := ⟨2, ![16, 34816]⟩

abbrev nBuf : Space → Nat
  | .hbm => 133
  | .vmem => 0
  | .smem => 0
  | _ => 0

abbrev hbmTy0_0 (i : Nat) : BufTy := match i % 128 with
  | 0 => ⟨S34816x1024, .f32⟩
  | 1 => ⟨S4x16x8x1024, .f32⟩
  | 2 => ⟨S1x1024, .f32⟩
  | 3 => ⟨S1024x4224, .bf16⟩
  | 4 => ⟨S16x1024, .bf16⟩
  | 5 => ⟨S8x1024, .f32⟩
  | 6 => ⟨S1x1024, .f32⟩
  | 7 => ⟨S1x1024, .f32⟩
  | 8 => ⟨S34816x1024, .f32⟩
  | 9 => ⟨S_, .f32⟩
  | 10 => ⟨S34816, .f32⟩
  | 11 => ⟨S34816x1, .f32⟩
  | 12 => ⟨S_, .f32⟩
  | 13 => ⟨S34816x1, .f32⟩
  | 14 => ⟨S34816x1, .f32⟩
  | 15 => ⟨S_, .f32⟩
  | 16 => ⟨S34816x1, .f32⟩
  | 17 => ⟨S34816x1, .f32⟩
  | 18 => ⟨S34816x1, .f32⟩
  | 19 => ⟨S34816x1024, .f32⟩
  | 20 => ⟨S34816x1024, .f32⟩
  | 21 => ⟨S34816x1024, .f32⟩
  | 22 => ⟨S34816x1024, .f32⟩
  | 23 => ⟨S1x1x1x1024, .f32⟩
  | 24 => ⟨S1024, .f32⟩
  | 25 => ⟨S8x256x1024, .f32⟩
  | 26 => ⟨S1x8x1x1024, .f32⟩
  | 27 => ⟨S8x1024, .f32⟩
  | 28 => ⟨S8x1x1024, .f32⟩
  | 29 => ⟨S8x4096x1024, .f32⟩
  | 30 => ⟨S8x4352x1024, .f32⟩
  | 31 => ⟨S34816x1024, .f32⟩
  | 32 => ⟨S_, .f32⟩
  | 33 => ⟨S34816x1024, .f32⟩
  | 34 => ⟨S34816x1024, .f32⟩
  | 35 => ⟨S34816x1024, .f32⟩
  | 36 => ⟨S1x1x1x1024, .f32⟩
  | 37 => ⟨S1024, .f32⟩
  | 38 => ⟨S8x256x1024, .f32⟩
  | 39 => ⟨S1x8x1x1024, .f32⟩
  | 40 => ⟨S8x1024, .f32⟩
  | 41 => ⟨S8x1x1024, .f32⟩
  | 42 => ⟨S8x4096x1024, .f32⟩
  | 43 => ⟨S8x4352x1024, .f32⟩
  | 44 => ⟨S34816x1024, .f32⟩
  | 45 => ⟨S34816x1024, .f32⟩
  | 46 => ⟨S1024x4224, .f32⟩
  | 47 => ⟨S34816x4224, .f32⟩
  | 48 => ⟨S34816x1024, .f32⟩
  | 49 => ⟨S8x4352x1024, .f32⟩
  | 50 => ⟨S8x256x1024, .f32⟩
  | 51 => ⟨S_, .i32⟩
  | 52 => ⟨S_, .f32⟩
  | 53 => ⟨S8x258x1024, .f32⟩
  | 54 => ⟨S8x256x1024, .f32⟩
  | 55 => ⟨S1x1024, .f32⟩
  | 56 => ⟨S1024, .f32⟩
  | 57 => ⟨S1x1x1024, .f32⟩
  | 58 => ⟨S8x256x1024, .f32⟩
  | 59 => ⟨S8x256x1024, .f32⟩
  | 60 => ⟨S8x256x1024, .f32⟩
  | 61 => ⟨S1x1024, .f32⟩
  | 62 => ⟨S1024, .f32⟩
  | 63 => ⟨S1x1x1024, .f32⟩
  | 64 => ⟨S8x256x1024, .f32⟩
  | 65 => ⟨S8x256x1024, .f32⟩
  | 66 => ⟨S8x256x1024, .f32⟩
  | 67 => ⟨S8x256x1024, .f32⟩
  | 68 => ⟨S1x1024, .f32⟩
  | 69 => ⟨S1024, .f32⟩
  | 70 => ⟨S1x1x1024, .f32⟩
  | 71 => ⟨S8x256x1024, .f32⟩
  | 72 => ⟨S8x256x1024, .f32⟩
  | 73 => ⟨S8x256x1024, .f32⟩
  | 74 => ⟨S1x1x1024, .f32⟩
  | 75 => ⟨S8x256x1024, .f32⟩
  | 76 => ⟨S8x256x1024, .f32⟩
  | 77 => ⟨S8x256x1024, .f32⟩
  | 78 => ⟨S8x256x1024, .f32⟩
  | 79 => ⟨S_, .f32⟩
  | 80 => ⟨S8x256x1024, .f32⟩
  | 81 => ⟨S8x256x1024, .f32⟩
  | 82 => ⟨S_, .f32⟩
  | 83 => ⟨S8x256x1024, .f32⟩
  | 84 => ⟨S8x256x1024, .f32⟩
  | 85 => ⟨S8x256x1024, .f32⟩
  | 86 => ⟨S8x4096x1024, .f32⟩
  | 87 => ⟨S_, .i32⟩
  | 88 => ⟨S_, .f32⟩
  | 89 => ⟨S8x4098x1024, .f32⟩
  | 90 => ⟨S8x4096x1024, .f32⟩
  | 91 => ⟨S1x1024, .f32⟩
  | 92 => ⟨S1024, .f32⟩
  | 93 => ⟨S1x1x1024, .f32⟩
  | 94 => ⟨S8x4096x1024, .f32⟩
  | 95 => ⟨S8x4096x1024, .f32⟩
  | 96 => ⟨S8x4096x1024, .f32⟩
  | 97 => ⟨S1x1024, .f32⟩
  | 98 => ⟨S1024, .f32⟩
  | 99 => ⟨S1x1x1024, .f32⟩
  | 100 => ⟨S8x4096x1024, .f32⟩
  | 101 => ⟨S8x4096x1024, .f32⟩
  | 102 => ⟨S8x4096x1024, .f32⟩
  | 103 => ⟨S8x4096x1024, .f32⟩
  | 104 => ⟨S1x1024, .f32⟩
  | 105 => ⟨S1024, .f32⟩
  | 106 => ⟨S1x1x1024, .f32⟩
  | 107 => ⟨S8x4096x1024, .f32⟩
  | 108 => ⟨S8x4096x1024, .f32⟩
  | 109 => ⟨S8x4096x1024, .f32⟩
  | 110 => ⟨S1x1x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S_, .f32⟩
  | 116 => ⟨S8x4096x1024, .f32⟩
  | 117 => ⟨S8x4096x1024, .f32⟩
  | 118 => ⟨S_, .f32⟩
  | 119 => ⟨S8x4096x1024, .f32⟩
  | 120 => ⟨S8x4096x1024, .f32⟩
  | 121 => ⟨S8x4096x1024, .f32⟩
  | 122 => ⟨S8x4352x1024, .f32⟩
  | 123 => ⟨S34816x1024, .f32⟩
  | 124 => ⟨S34816x1024, .f32⟩
  | 125 => ⟨S34816x1024, .f32⟩
  | 126 => ⟨S34816x1664, .f32⟩
  | 127 => ⟨S34816x256, .f32⟩
  | _ => ⟨S34816x1024, .f32⟩

abbrev hbmTy0_1 (i : Nat) : BufTy := match i % 128 with
  | 0 => ⟨S34816x1280, .f32⟩
  | 1 => ⟨S16x1024, .f32⟩
  | 2 => ⟨S1024x16, .f32⟩
  | 3 => ⟨S34816x16, .f32⟩
  | 4 => ⟨S16x34816, .f32⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v63 : Ref sig .tc := ⟨.hbm, 85, rfl⟩
abbrev main_v64 : Ref sig .tc := ⟨.hbm, 86, rfl⟩
abbrev main_c_3 : Ref sig .tc := ⟨.hbm, 87, rfl⟩
abbrev main_call2_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel4.lean ====
abbrev S32768x1024 : Shape := ⟨2, ![32768, 1024]⟩
abbrev S4x16x8x1024 : Shape := ⟨4, ![4, 16, 8, 1024]⟩
abbrev S1x1024 : Shape := ⟨2, ![1, 1024]⟩
abbrev S256x1024 : Shape := ⟨2, ![256, 1024]⟩
abbrev S1x1x8x1024 : Shape := ⟨4, ![1, 1, 8, 1024]⟩
abbrev S8x1024 : Shape := ⟨2, ![8, 1024]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x16x8x1024, .f32⟩
  | .hbm, ⟨4, _⟩ => ⟨S1x1024, .f32⟩
  | .hbm, ⟨5, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S4x16x8x1024 : Shape := ⟨4, ![4, 16, 8, 1024]⟩
abbrev S1x1024 : Shape := ⟨2, ![1, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x4096x1024 : Shape := ⟨3, ![8, 4096, 1024]⟩
abbrev S_ : Shape := ⟨0, ![]⟩
abbrev S32768 : Shape := ⟨1, ![32768]⟩
abbrev S32768x1 : Shape := ⟨2, ![32768, 1]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x16x8x1024, .f32⟩
  | .hbm, ⟨4, _⟩ => ⟨S1x1024, .f32⟩
  | .hbm, ⟨5, _⟩ => ⟨S1x8x1x1024, .f32⟩
  | .hbm, ⟨6, _⟩ => ⟨S8x1024, .f32⟩
  | .hbm, ⟨7, _⟩ => ⟨S8x1x1024, .f32⟩
  | .hbm, ⟨8, _⟩ => ⟨S8x4096x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S34816x512 : Shape := ⟨2, ![34816, 512]⟩
abbrev S34816x1664 : Shape := ⟨2, ![34816, 1664]⟩
abbrev S2x34816x256 : Shape := ⟨3, ![2, 34816, 256]⟩
abbrev S34816x256 : Shape := ⟨2, ![34816, 256]⟩
abbrev S34816x1280 : Shape := ⟨2, ![34816, 1280]⟩
abbrev S34816x1024 : Shape := ⟨2, ![34816, 1024]⟩
abbrev S4x16x8x1024 : Shape := ⟨4, ![4, 16, 8, 1024]⟩
abbrev S1x512 : Shape := ⟨2, ![1, 512]⟩
abbrev S1x256 : Shape := ⟨2, ![1, 256]⟩
abbrev S256x256 : Shape := ⟨2, ![256, 256]⟩
abbrev S1280x1024 : Shape := ⟨2, ![1280, 1024]⟩
abbrev S1x1024 : Shape := ⟨2, ![1, 1024]⟩
abbrev S256x512 : Shape := ⟨2, ![256, 512]⟩
abbrev S2x256x256 : Shape := ⟨3, ![2, 256, 256]⟩
abbrev S256x1024 : Shape := ⟨2, ![256, 1024]⟩
abbrev S1x1x8x1024 : Shape := ⟨4, ![1, 1, 8, 1024]⟩
abbrev S256x128 : Shape := ⟨2, ![256, 128]⟩
abbrev S256 : Shape := ⟨1, ![256]⟩
abbrev S256x1 : Shape := ⟨2, ![256, 1]⟩
abbrev S1x256x256 : Shape := ⟨3, ![1, 256, 256]⟩
abbrev S512x1024 : Shape := ⟨2, ![512, 1024]⟩
abbrev S8x1024 : Shape := ⟨2, ![8, 1024]⟩

abbrev nBuf : Space → Nat
  | .hbm => 19
  | .vmem => 31
  | .smem => 0
  | _ => 0

abbrev bufTy : (tb : Table) → Fin (tcTables nBuf tb) → BufTy
  | .hbm, ⟨0, _⟩ => ⟨S34816x512, .bf16⟩
  | .hbm, ⟨1, _⟩ => ⟨S34816x512, .bf16⟩
  | .hbm, ⟨2, _⟩ => ⟨S34816x1664, .f32⟩
  | .hbm, ⟨3, _⟩ => ⟨S2x34816x256, .f32⟩
  | .hbm, ⟨4, _⟩ => ⟨S34816x256, .f32⟩
  | .hbm, ⟨5, _⟩ => ⟨S34816x512, .bf16⟩
  | .hbm, ⟨6, _⟩ => ⟨S34816x512, .bf16⟩
  | .hbm, ⟨7, _⟩ => ⟨S34816x1280, .f32⟩
  | .hbm, ⟨8, _⟩ => ⟨S34816x1024, .f32⟩
  | .hbm, ⟨9, _⟩ => ⟨S4x16x8x1024, .f32⟩
  | .hbm, ⟨10, _⟩ => ⟨S1x512, .f32⟩
  | .hbm, ⟨11, _⟩ => ⟨S1x512, .f32⟩
  | .hbm, ⟨12, _⟩ => ⟨S1x256, .f32⟩
  | .hbm, ⟨13, _⟩ => ⟨S256x256, .bf16⟩
  | .hbm, ⟨14, _⟩ => ⟨S1x256, .f32⟩
  | .hbm, ⟨15, _⟩ => ⟨S1280x1024, .bf16⟩
  | .hbm, ⟨16, _⟩ => ⟨S1x1024, .f32⟩
  | .hbm, ⟨17, _⟩ => ⟨S34816x1024, .f32⟩
  | .hbm, ⟨18, _⟩ => ⟨S34816x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S2x256x256, .f32⟩
  | .local _ .vmem, ⟨7, _⟩ => ⟨S2x256x256, .f32⟩
  | .local _ .vmem, ⟨8, _⟩ => ⟨S256x256, .f32⟩
  | .local _ .vmem, ⟨9, _⟩ => ⟨S256x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S1x1x8x1024, .f32⟩
  | .local _ .vmem, ⟨19, _⟩ => ⟨S1x1x8x1024, .f32⟩
  | .local _ .vmem, ⟨20, _⟩ => ⟨S1x512, .f32⟩
  | .local _ .vmem, ⟨21, _⟩ => ⟨S1x512, .f32⟩
  | .local _ .vmem, ⟨22, _⟩ => ⟨S1x256, .f32⟩
  | .local _ .vmem, ⟨23, _⟩ => ⟨S256x256, .bf16⟩
  | .local _ .vmem, ⟨24, _⟩ => ⟨S1x256, .f32⟩
  | .local _ .vmem, ⟨25, _⟩ => ⟨S1280x1024, .bf16⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | _, _ => ⟨S34816x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  let c0_i32_14 : BitVec 32 := 0#32
  ![c0_i32_11.toNat, v28.toNat, c0_i32_12.toNat, c0_i32_13.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1280x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel5Ideal.lean ====
variable {F : FTy → Type} [FloatOps F] [Named F]
def κ : String → Option EReal := fun
  | "per_head" => some ((96⁻¹ : ℝ) : EReal)
  | _ => none
-- ==== Reference5Ideal.lean ====
abbrev S34816x512 : Shape := ⟨2, ![34816, 512]⟩
abbrev S34816x1664 : Shape := ⟨2, ![34816, 1664]⟩
abbrev S2x34816x256 : Shape := ⟨3, ![2, 34816, 256]⟩
abbrev S34816x256 : Shape := ⟨2, ![34816, 256]⟩
abbrev S34816x1280 : Shape := ⟨2, ![34816, 1280]⟩
abbrev S34816x1024 : Shape := ⟨2, ![34816, 1024]⟩
abbrev S4x16x8x1024 : Shape := ⟨4, ![4, 16, 8, 1024]⟩
abbrev S1x512 : Shape := ⟨2, ![1, 512]⟩
abbrev S1x256 : Shape := ⟨2, ![1, 256]⟩
abbrev S256x256 : Shape := ⟨2, ![256, 256]⟩
abbrev S1280x1024 : Shape := ⟨2, ![1280, 1024]⟩
abbrev S1x1024 : Shape := ⟨2, ![1, 1024]⟩
abbrev S34816x4x128 : Shape := ⟨3, ![34816, 4, 128]⟩
abbrev S_ : Shape := ⟨0, ![]⟩
abbrev S34816x4 : Shape := ⟨2, ![34816, 4]⟩
abbrev S34816x4x1 : Shape := ⟨3, ![34816, 4, 1]⟩
abbrev S1x34816x256 : Shape := ⟨3, ![1, 34816, 256]⟩
abbrev S1x1x1x1024 : Shape := ⟨4, ![1, 1, 1, 1024]⟩
abbrev S1024 : Shape := ⟨1, ![1024]⟩
abbrev S8x256x1024 : Shape := ⟨3, ![8, 256, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x4096x1024 : Shape := ⟨3, ![8, 4096, 1024]⟩
abbrev S8x4352x1024 : Shape := ⟨3, ![8, 4352, 1024]⟩
abbrev S34816 : Shape := ⟨1, ![34816]⟩
abbrev S34816x1 : Shape := ⟨2, ![34816, 1]⟩

abbrev nBuf : Space → Nat
  | .hbm => 169
  | .vmem => 0
  | .smem => 0
  | _ => 0

abbrev hbmTy0_0 (i : Nat) : BufTy := match i % 128 with
  | 0 => ⟨S34816x512, .bf16⟩
  | 1 => ⟨S34816x512, .bf16⟩
  | 2 => ⟨S34816x1664, .f32⟩
  | 3 => ⟨S2x34816x256, .f32⟩
  | 4 => ⟨S34816x256, .f32⟩
  | 5 => ⟨S34816x512, .bf16⟩
  | 6 => ⟨S34816x512, .bf16⟩
  | 7 => ⟨S34816x1280, .f32⟩
  | 8 => ⟨S34816x1024, .f32⟩
  | 9 => ⟨S4x16x8x1024, .f32⟩
  | 10 => ⟨S1x512, .f32⟩
  | 11 => ⟨S1x512, .f32⟩
  | 12 => ⟨S1x256, .f32⟩
  | 13 => ⟨S256x256, .bf16⟩
  | 14 => ⟨S1x256, .f32⟩
  | 15 => ⟨S1280x1024, .bf16⟩
  | 16 => ⟨S1x1024, .f32⟩
  | 17 => ⟨S34816x512, .f32⟩
  | 18 => ⟨S34816x512, .f32⟩
  | 19 => ⟨S34816x512, .f32⟩
  | 20 => ⟨S34816x4x128, .f32⟩
  | 21 => ⟨S34816x4x128, .f32⟩
  | 22 => ⟨S_, .f32⟩
  | 23 => ⟨S34816x4, .f32⟩
  | 24 => ⟨S34816x4x1, .f32⟩
  | 25 => ⟨S_, .f32⟩
  | 26 => ⟨S34816x4x1, .f32⟩
  | 27 => ⟨S34816x4x1, .f32⟩
  | 28 => ⟨S_, .f32⟩
  | 29 => ⟨S34816x4x1, .f32⟩
  | 30 => ⟨S34816x4x1, .f32⟩
  | 31 => ⟨S34816x4x1, .f32⟩
  | 32 => ⟨S34816x4x128, .f32⟩
  | 33 => ⟨S34816x4x128, .f32⟩
  | 34 => ⟨S34816x512, .f32⟩
  | 35 => ⟨S34816x512, .f32⟩
  | 36 => ⟨S34816x512, .f32⟩
  | 37 => ⟨S34816x512, .f32⟩
  | 38 => ⟨S34816x512, .f32⟩
  | 39 => ⟨S34816x512, .f32⟩
  | 40 => ⟨S_, .f32⟩
  | 41 => ⟨S34816x512, .f32⟩
  | 42 => ⟨S34816x512, .f32⟩
  | 43 => ⟨S_, .f32⟩
  | 44 => ⟨S34816x512, .f32⟩
  | 45 => ⟨S34816x512, .f32⟩
  | 46 => ⟨S34816x512, .f32⟩
  | 47 => ⟨S34816x512, .f32⟩
  | 48 => ⟨S1x34816x256, .f32⟩
  | 49 => ⟨S34816x256, .f32⟩
  | 50 => ⟨S1x34816x256, .f32⟩
  | 51 => ⟨S34816x256, .f32⟩
  | 52 => ⟨S34816x256, .f32⟩
  | 53 => ⟨S34816x256, .f32⟩
  | 54 => ⟨S34816x256, .f32⟩
  | 55 => ⟨S34816x256, .f32⟩
  | 56 => ⟨S34816x256, .f32⟩
  | 57 => ⟨S34816x256, .f32⟩
  | 58 => ⟨S_, .f32⟩
  | 59 => ⟨S34816x256, .f32⟩
  | 60 => ⟨S34816x256, .f32⟩
  | 61 => ⟨S34816x256, .f32⟩
  | 62 => ⟨S_, .f32⟩
  | 63 => ⟨S34816x256, .f32⟩
  | 64 => ⟨S34816x256, .f32⟩
  | 65 => ⟨S34816x256, .f32⟩
  | 66 => ⟨S_, .f32⟩
  | 67 => ⟨S34816x256, .f32⟩
  | 68 => ⟨S34816x256, .f32⟩
  | 69 => ⟨S_, .f32⟩
  | 70 => ⟨S34816x256, .f32⟩
  | 71 => ⟨S34816x256, .f32⟩
  | 72 => ⟨S34816x256, .f32⟩
  | 73 => ⟨S256x256, .f32⟩
  | 74 => ⟨S34816x256, .f32⟩
  | 75 => ⟨S34816x256, .f32⟩
  | 76 => ⟨S34816x256, .f32⟩
  | 77 => ⟨S34816x256, .f32⟩
  | 78 => ⟨S34816x256, .f32⟩
  | 79 => ⟨S_, .f32⟩
  | 80 => ⟨S34816x256, .f32⟩
  | 81 => ⟨S34816x256, .f32⟩
  | 82 => ⟨S_, .f32⟩
  | 83 => ⟨S34816x256, .f32⟩
  | 84 => ⟨S34816x256, .f32⟩
  | 85 => ⟨S34816x256, .f32⟩
  | 86 => ⟨S34816x512, .f32⟩
  | 87 => ⟨S34816x512, .f32⟩
  | 88 => ⟨S34816x512, .f32⟩
  | 89 => ⟨S34816x4x128, .f32⟩
  | 90 => ⟨S34816x4x128, .f32⟩
  | 91 => ⟨S_, .f32⟩
  | 92 => ⟨S34816x4, .f32⟩
  | 93 => ⟨S34816x4x1, .f32⟩
  | 94 => ⟨S_, .f32⟩
  | 95 => ⟨S34816x4x1, .f32⟩
  | 96 => ⟨S34816x4x1, .f32⟩
  | 97 => ⟨S_, .f32⟩
  | 98 => ⟨S34816x4x1, .f32⟩
  | 99 => ⟨S34816x4x1, .f32⟩
  | 100 => ⟨S34816x4x1, .f32⟩
  | 101 => ⟨S34816x4x128, .f32⟩
  | 102 => ⟨S34816x4x128, .f32⟩
  | 103 => ⟨S34816x512, .f32⟩
  | 104 => ⟨S34816x512, .f32⟩
  | 105 => ⟨S34816x512, .f32⟩
  | 106 => ⟨S34816x512, .f32⟩
  | 107 => ⟨S34816x512, .f32⟩
  | 108 => ⟨S34816x512, .f32⟩
  | 109 => ⟨S_, .f32⟩
  | 110 => ⟨S34816x512, .f32⟩
  | 111 => ⟨S34816x512, .f32⟩
  | 112 => ⟨S_, .f32⟩
  | 113 => ⟨S34816x512, .f32⟩
  | 114 => ⟨S34816x512, .f32⟩
  | 115 => ⟨S34816x512, .f32⟩
  | 116 => ⟨S34816x1280, .f32⟩
  | 117 => ⟨S1280x1024, .f32⟩
  | 118 => ⟨S34816x1024, .f32⟩
  | 119 => ⟨S1x1x1x1024, .f32⟩
  | 120 => ⟨S1024, .f32⟩
  | 121 => ⟨S8x256x1024, .f32⟩
  | 122 => ⟨S1x8x1x1024, .f32⟩
  | 123 => ⟨S8x1024, .f32⟩
  | 124 => ⟨S8x1x1024, .f32⟩
  | 125 => ⟨S8x4096x1024, .f32⟩
  | 126 => ⟨S8x4352x1024, .f32⟩
  | 127 => ⟨S34816x1024, .f32⟩
  | _ => ⟨S34816x512, .bf16⟩

abbrev hbmTy0_1 (i : Nat) : BufTy := match i % 128 with
  | 0 => ⟨S34816x1024, .f32⟩
  | 1 => ⟨S34816x1024, .f32⟩
  | 2 => ⟨S34816x1024, .f32⟩
  | 3 => ⟨S_, .f32⟩
  | 4 => ⟨S34816, .f32⟩
  | 5 => ⟨S34816x1, .f32⟩
  | 6 => ⟨S_, .f32⟩
  | 7 => ⟨S34816x1, .f32⟩
  | 8 => ⟨S34816x1, .f32⟩
  | 9 => ⟨S_, .f32⟩
  | 10 => ⟨S34816x1, .f32⟩
  | 11 => ⟨S34816x1, .f32⟩
  | 12 => ⟨S34816x1, .f32⟩
  | 13 => ⟨S34816x1024, .f32⟩
  | 14 => ⟨S34816x1024, .f32⟩
  | 15 => ⟨S34816x1024, .f32⟩
  | 16 => ⟨S34816x1024, .f32⟩
  | 17 => ⟨S1x1x1x1024, .f32⟩
  | 18 => ⟨S1024, .f32⟩
  | 19 => ⟨S8x256x1024, .f32⟩
  | 20 => ⟨S1x8x1x1024, .f32⟩
  | 21 => ⟨S8x1024, .f32⟩
  | 22 => ⟨S8x1x1024, .f32⟩
  | 23 => ⟨S8x4096x1024, .f32⟩
  | 24 => ⟨S8x4352x1024, .f32⟩
  | 25 => ⟨S34816x1024, .f32⟩
  | 26 => ⟨S_, .f32⟩
  | 27 => ⟨S34816x1024, .f32⟩
  | 28 => ⟨S34816x1024, .f32⟩
  | 29 => ⟨S34816x1024, .f32⟩
  | 30 => ⟨S1x1x1x1024, .f32⟩
  | 31 => ⟨S1024, .f32⟩
  | 32 => ⟨S8x256x1024, .f32⟩
  | 33 => ⟨S1x8x1x1024, .f32⟩
  | 34 => ⟨S8x1024, .f32⟩
  | 35 => ⟨S8x1x1024, .f32⟩
  | 36 => ⟨S8x4096x1024, .f32⟩
  | 37 => ⟨S8x4352x1024, .f32⟩
  | 38 => ⟨S34816x1024, .f32⟩
  | 39 => ⟨S34816x1024, .f32⟩
  | 40 => ⟨S34816x1024, .bf16⟩
  | _ => ⟨S34816x512, .bf16⟩

abbrev hbmTy (i : Nat) : BufTy := match i / 128 with
  | 0 => hbmTy0_0 i
  | 1 => hbmTy0_1 i
  | _ => ⟨S34816x512, .bf16⟩

abbrev bufTy : (tb : Table) → Fin (tcTables nBuf tb) → BufTy
  | .hbm, ⟨i, _⟩ => hbmTy i
  | _, _ => ⟨S34816x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_8 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩

abbrev nD : Nat := 1
abbrev τ : Topo := Topo.v7x

variable {F : FTy → Type} [FloatOps F]
-- ==== Proof.MoeRun.lean ====
/- The experts' kernel body, run once for each of its two branches: a live block of rows is multiplied
   through its expert, a dead block is stored as zeros. The two runs are stated over any tables. -/
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Writes
public import Idealize.ShloMosaic.Lib.WordCmp
public import Idealize.ShloMosaic.Lib.Ring
public import Idealize.ShloMosaic.Lib.Affine
public import Idealize.ShloMosaic.Lib.Pipeline.FrameBody
public import Idealize.ShloMosaic.Lib.Pipeline.Kit
public import Idealize.ShloMosaic.Lib.Pipeline.TableIdle

@[expose] public section

set_option maxRecDepth 16384
set_option Elab.async false

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables (each block's expert, each block's live flag) and the scratch, whole. -/
abbrev tabE : Memref sig .tc .smem S144 .i32 := Memref.whole main_arg0
abbrev tabL : Memref sig .tc .smem S144 .i32 := Memref.whole main_arg1
abbrev hid : Memref sig .tc .vmem S512x2816 .bf16 := Memref.whole cc0_scratch0

/-- The live flag the first branch tests at a grid point, and the one the second branch tests. -/
abbrev flagA (i : grid0.Coords) (T1 : S144.Idx → Elt F .i32) : BitVec 32 :=
  View.readAt (Elt F) tabL.view (Rect.unit (s := S144) (k0_off1 i) S1.size (k0_off1_inb i)).toLoadRect T1 (Shape.Idx.first (numel1_S1.symm ▸ Nat.one_pos))
abbrev flagB (i : grid0.Coords) (T1 : S144.Idx → Elt F .i32) : BitVec 32 :=
  View.readAt (Elt F) tabL.view (Rect.unit (s := S144) (k0_off3 i) S1.size (k0_off3_inb i)).toLoadRect T1 (Shape.Idx.first (numel1_S1.symm ▸ Nat.one_pos))

/-- What the body holds around a run: the inputs' staging buffers, the tables' halves. -/
abbrev held (c : Dev nD) (a3 : Memref sig .tc .vmem S512x1152 .f32) (a4 a5 : Memref sig .tc .vmem S1x1024x2816 .bf16)
    (a6 : Memref sig .tc .vmem S1x2816x1024 .bf16) (T0 T1 : S144.Idx → Elt F .i32)
    (x0 : Vec F S512x1152 .f32) (x1 x2 : Vec F S1x1024x2816 .bf16) (x3 : Vec F S1x2816x1024 .bf16) : sProp 𝕄 :=
  iprop(owns (c : Thread nD τ) a3 fullShare x0 ∗ owns (c : Thread nD τ) a4 fullShare x1 ∗ owns (c : Thread nD τ) a5 fullShare x2
    ∗ owns (c : Thread nD τ) a6 fullShare x3
    ∗ (tabE.view.loc (c : Thread nD τ) ↦{fullShare.right} T0) ∗ (tabL.view.loc (c : Thread nD τ) ↦{fullShare.right} T1))

set_option maxHeartbeats 8000000 in
/-- A live block: what the stores leave in the output's buffer and in the scratch, found by the run. -/
noncomputable def runLive (c : Dev nD) (i : grid0.Coords)
    (a3 : Memref sig .tc .vmem S512x1152 .f32) (h3 : a3.IsWhole) (a4 : Memref sig .tc .vmem S1x1024x2816 .bf16) (h4 : a4.IsWhole)
    (a5 : Memref sig .tc .vmem S1x1024x2816 .bf16) (h5 : a5.IsWhole) (a6 : Memref sig .tc .vmem S1x2816x1024 .bf16) (h6 : a6.IsWhole)
    (a7 : Memref sig .tc .vmem S512x1024 .f32) (h7 : a7.IsWhole) (T0 T1 : S144.Idx → Elt F .i32)
    (x0 : Vec F S512x1152 .f32) (x1 x2 : Vec F S1x1024x2816 .bf16) (x3 : Vec F S1x2816x1024 .bf16)
    (hA : k0_cond1 (flagA i T1) = 1#1) (hB : ¬ k0_cond2 (flagB i T1) = 1#1) :
    Σ' (LO : List (View.Piece (Elt F) S512x1024 .f32)), { LS : List (View.Piece (Elt F) S512x2816 .bf16) //
      ∀ (K : PUnit → sProp 𝕄),
        iprop(held c a3 a4 a5 a6 T0 T1 x0 x1 x2 x3 ∗ (∃ d, owns (c : Thread nD τ) a7 fullShare d) ∗ (∃ d, owns (c : Thread nD τ) hid fullShare d)
          ∗ (iprop(held c a3 a4 a5 a6 T0 T1 x0 x1 x2 x3
              ∗ (∃ f, a7.view.loc (c : Thread nD τ) ↦[a7.view.set]{fullShare} a7.view.writes (Elt F) f LO)
              ∗ (∃ f, hid.view.loc (c : Thread nD τ) ↦[hid.view.set]{fullShare} hid.view.writes (Elt F) f LS)) -∗ K ⟨⟩))
          ⊢ wp frame (wpE (defs₀ (F := F)) Variants.none c none) Set.univ
              (cc0_moe_experts i tabE (Memref.isWhole_whole _) tabL (Memref.isWhole_whole _) a3 h3 a4 h4 a5 h5 a6 h6 a7 h7 hid (Memref.isWhole_whole _)) K } := by
  refine ⟨?_, ?_, fun K => ?run⟩
  case run =>
    rw [cc0_moe_experts_eq_skeleton]; unfold cc0_moe_experts_skel
    simp only [k0_part1_eq_skeleton, k0_part2_eq_skeleton, k0_part3_eq_skeleton, k0_part4_eq_skeleton, k0_part5_eq_skeleton]
    unfold held owns
    iintro ⟨⟨⟨%f0, %hf0, H0⟩, ⟨%f1, %hf1, H1⟩, ⟨%f2, %hf2, H2⟩, ⟨%f3, %hf3, H3⟩, HT0, HT1⟩, ⟨%d4, %f4, -, H4⟩, ⟨%ds, %fs, -, HS⟩, Hk⟩
    obtain rfl := h3.eq_unread hf0; obtain rfl := h4.eq_unread hf1; obtain rfl := h5.eq_unread hf2; obtain rfl := h6.eq_unread hf3
    have hT0 : tabE.IsWhole := Memref.isWhole_whole _
    have hT1 : tabL.IsWhole := Memref.isWhole_whole _
    sl_exec (disch := first | (guard_target = k0_cond1 _ = _; exact hA) | (guard_target = ¬(k0_cond2 _ = _); exact hB))
    sl_step
    iapply Hk
    isplitl [H0 H1 H2 H3 HT0 HT1]
    · isplitl [H0]
      · iexists _; isplitr; · ipureintro; exact h3.read_unread _
        iexact H0
      isplitl [H1]
      · iexists _; isplitr; · ipureintro; exact h4.read_unread _
        iexact H1
      isplitl [H2]
      · iexists _; isplitr; · ipureintro; exact h5.read_unread _
        iexact H2
      isplitl [H3]
      · iexists _; isplitr; · ipureintro; exact h6.read_unread _
        iexact H3
      isplitl [HT0]; · iexact HT0
      iexact HT1
    isplitl [H4]; · iexists _; iexact H4
    iexists _; iexact HS

set_option maxHeartbeats 4000000 in
/-- A dead block: its stores in the output's buffer, the scratch untouched. -/
noncomputable def runDead (c : Dev nD) (i : grid0.Coords)
    (a3 : Memref sig .tc .vmem S512x1152 .f32) (h3 : a3.IsWhole) (a4 : Memref sig .tc .vmem S1x1024x2816 .bf16) (h4 : a4.IsWhole)
    (a5 : Memref sig .tc .vmem S1x1024x2816 .bf16) (h5 : a5.IsWhole) (a6 : Memref sig .tc .vmem S1x2816x1024 .bf16) (h6 : a6.IsWhole)
    (a7 : Memref sig .tc .vmem S512x1024 .f32) (h7 : a7.IsWhole) (T0 T1 : S144.Idx → Elt F .i32)
    (x0 : Vec F S512x1152 .f32) (x1 x2 : Vec F S1x1024x2816 .bf16) (x3 : Vec F S1x2816x1024 .bf16)
    (hA : ¬ k0_cond1 (flagA i T1) = 1#1) (hB : k0_cond2 (flagB i T1) = 1#1) :
    { LO : List (View.Piece (Elt F) S512x1024 .f32) //
      ∀ (K : PUnit → sProp 𝕄),
        iprop(held c a3 a4 a5 a6 T0 T1 x0 x1 x2 x3 ∗ (∃ d, owns (c : Thread nD τ) a7 fullShare d)
          ∗ (iprop(held c a3 a4 a5 a6 T0 T1 x0 x1 x2 x3
              ∗ (∃ f, a7.view.loc (c : Thread nD τ) ↦[a7.view.set]{fullShare} a7.view.writes (Elt F) f LO)) -∗ K ⟨⟩))
          ⊢ wp frame (wpE (defs₀ (F := F)) Variants.none c none) Set.univ
              (cc0_moe_experts i tabE (Memref.isWhole_whole _) tabL (Memref.isWhole_whole _) a3 h3 a4 h4 a5 h5 a6 h6 a7 h7 hid (Memref.isWhole_whole _)) K } := by
  refine ⟨?_, fun K => ?run⟩
  case run =>
    rw [cc0_moe_experts_eq_skeleton]; unfold cc0_moe_experts_skel
    unfold held owns
    iintro ⟨⟨H0, H1, H2, H3, HT0, HT1⟩, ⟨%d4, %f4, -, H4⟩, Hk⟩
    have hT1 : tabL.IsWhole := Memref.isWhole_whole _
    sl_exec (disch := first | (guard_target = ¬(k0_cond1 _ = _); exact hA) | (guard_target = k0_cond2 _ = _; exact hB))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    iexists _; iexact H4

end Cert.KernelIdeal.Moe

end
-- ==== Proof.MoeFrame.lean ====
/- The experts' pipeline at tables that route: every expert's number below eight and no live flag negative.
   The proof data, the body obligation at every point of the grid, the launch, and the frame. -/
module

public import proofs.«01_k».proof.Proof.MoeRun

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tables that route -/

/-- The two tables, as the memory holds them. -/
abbrev tabs : pre0.Contents (Elt F) := fun k => m (((0 : Dev nD) : Thread nD τ).loc (pre0.ref k))
abbrev experts : S144.Idx → BitVec 32 := m (((0 : Dev nD) : Thread nD τ).loc main_arg0)
abbrev flags : S144.Idx → BitVec 32 := m (((0 : Dev nD) : Thread nD τ).loc main_arg1)

/-- Every block's expert is one of the eight and no block's live flag is negative. -/
structure Routed : Prop where
  expert : ∀ x, (experts m x).toNat < 8
  flag : ∀ x, 0 ≤ (flags m x).toInt

theorem cmp_ext (b : BitVec 1) : Scalar.cmpi .ne (Scalar.extui b) 0#32 = b := by revert b; decide

theorem cond1_iff (w : BitVec 32) : k0_cond1 w = 1#1 ↔ 0 < w.toInt := by
  unfold k0_cond1
  simp only [cmp_ext]
  exact ofBool_decide_eq_one_iff _

theorem cond2_iff (w : BitVec 32) : k0_cond2 w = 1#1 ↔ w = 0#32 := by
  unfold k0_cond2
  simp only [cmp_ext]
  exact (iff_of_eq (congrArg (· = 1#1) (cmpi_eq_eq w 0#32))).trans (ofBool_decide_eq_one_iff _)

theorem zero_of_nonneg (w : BitVec 32) (h : 0 ≤ w.toInt) (h' : ¬ k0_cond1 w = 1#1) : k0_cond2 w = 1#1 := by
  rw [cond1_iff] at h'
  exact (cond2_iff w).2 (BitVec.eq_of_toInt_eq (by simp; omega))

theorem not_zero_of_live (w : BitVec 32) (h : k0_cond1 w = 1#1) : ¬ k0_cond2 w = 1#1 := fun h' => by
  rw [(cond2_iff w).1 h'] at h; exact absurd h (by decide)

/-- The word both branches test is the point's live flag. -/
theorem flagA_eq (i : grid0.Coords) (T : S144.Idx → Elt F .i32) :
    flagA i T = T (fun a => ⟨(i 0).val, by fin_cases a; exact (i 0).isLt⟩) := by
  unfold flagA
  refine congrArg T (funext fun a => Fin.ext ?_)
  fin_cases a
  have h : ∀ i : grid0.Coords, k0_off1 i 0 = (i 0).val := by decide +kernel
  exact h i

theorem flagB_eq (i : grid0.Coords) (T : S144.Idx → Elt F .i32) : flagB i T = flagA i T := rfl

variable (hR : Routed m)

/-- The blocks of the three weight arrays lie inside them: the expert's number is below eight. -/
theorem tabs_ok (hR : Routed m) : ok0 (tabs m) := by
  have inb {n a b : ℕ} (w : BitVec 32) (hw : w.toNat < 8) :
      ∀ x : Fin 3, ((![w.toNat, (0#32).toNat, (0#32).toNat] : Fin 3 → ℕ) x + 1) * (![1, a, b] : Fin 3 → ℕ) x ≤ (![8, a, b] : Fin 3 → ℕ) x := by
    intro x; fin_cases x <;> simp <;> omega
  refine ⟨fun i => ⟨inb (n := 0) _ (hR.expert _), .inr ?_⟩, fun i => ⟨inb (n := 0) _ (hR.expert _), .inr ?_⟩, fun i => ⟨inb (n := 0) _ (hR.expert _), .inr ?_⟩⟩
  · exact Affine.block_words_dvd (s := S8x1024x2816) (p := EltTy.packing .bf16) (by decide) (by decide)
  · exact Affine.block_words_dvd (s := S8x1024x2816) (p := EltTy.packing .bf16) (by decide) (by decide)
  · exact Affine.block_words_dvd (s := S8x2816x1024) (p := EltTy.packing .bf16) (by decide) (by decide)

/-- The pipeline at these tables. -/
def adm : (pcfg0 (F := F)).Adm := ⟨tabs m, tabs_ok m hR⟩
abbrev cfgA : Cfg sig Λ₀ := cfg0 (adm m hR)
abbrev pcs : Fin 1 → Cfg sig Λ₀ := Pipeline.pin (pcfgs (F := F)) fun _ => adm m hR

/-- A point's coordinates and the windows' staging buffers there. -/
abbrev crd (t : Fin (cfgA m hR).N) : (cfgA m hR).grid.Coords := (cfgA m hR).grid.coords t
abbrev st0 (t : Fin (cfgA m hR).N) : Memref sig .tc .vmem S512x1152 .f32 := spec0_0.stage ((cfgA m hR).slots t (0 : Fin 5))
abbrev st1 (t : Fin (cfgA m hR).N) : Memref sig .tc .vmem S1x1024x2816 .bf16 := spec0_1.stage ((cfgA m hR).slots t (1 : Fin 5))
abbrev st2 (t : Fin (cfgA m hR).N) : Memref sig .tc .vmem S1x1024x2816 .bf16 := spec0_2.stage ((cfgA m hR).slots t (2 : Fin 5))
abbrev st3 (t : Fin (cfgA m hR).N) : Memref sig .tc .vmem S1x2816x1024 .bf16 := spec0_3.stage ((cfgA m hR).slots t (3 : Fin 5))
abbrev st4 (t : Fin (cfgA m hR).N) : Memref sig .tc .vmem S512x1024 .f32 := spec0_4.stage ((cfgA m hR).slots t (4 : Fin 5))
theorem wh0 (t : Fin (cfgA m hR).N) : (st0 m hR t).IsWhole := hstage0_0 (((cfgA m hR).slots t (0 : Fin 5)).cast nbuf0_0)
theorem wh1 (t : Fin (cfgA m hR).N) : (st1 m hR t).IsWhole := hstage0_1 (((cfgA m hR).slots t (1 : Fin 5)).cast nbuf0_1)
theorem wh2 (t : Fin (cfgA m hR).N) : (st2 m hR t).IsWhole := hstage0_2 (((cfgA m hR).slots t (2 : Fin 5)).cast nbuf0_2)
theorem wh3 (t : Fin (cfgA m hR).N) : (st3 m hR t).IsWhole := hstage0_3 (((cfgA m hR).slots t (3 : Fin 5)).cast nbuf0_3)
theorem wh4 (t : Fin (cfgA m hR).N) : (st4 m hR t).IsWhole := hstage0_4 (((cfgA m hR).slots t (4 : Fin 5)).cast nbuf0_4)

/-- The memory as the region finds it, and window `w`'s block of its array at point `t`. -/
abbrev V (c : Dev nD) (b : Ref sig .tc) : Buf (Elt F) ((c : Thread nD τ).loc b) := m ((c : Thread nD τ).loc b)
def blk (c : Dev nD) (w : Fin (cfgA m hR).W) (t : Fin (cfgA m hR).N) : (((cfgA m hR).win w).xblock (crd m hR t)).Idx → Elt F ((cfgA m hR).win w).elt :=
  (((cfgA m hR).win w).blk t).view.read (Elt F) (V m c (Pipeline.arrRef spec0 w))

/-- The output is stored at every point, live or dead. -/
theorem idle4 (i : grid0.Coords) : (cfgA m hR).idle (4 : Fin 5) i = false := by
  have key (w : BitVec 32) (hw : 0 ≤ w.toInt) : (!(k0_cond1 w == 1#1) && !(k0_cond2 w == 1#1)) = false := by
    by_cases h : k0_cond1 w = 1#1
    · simp [h]
    · simp [zero_of_nonneg w hw h]
  refine key ((tabs m).atD 1 (k0_off1 i)) ?_
  unfold Pipeline.Prefetch.Contents.atD
  split
  · exact hR.flag _
  · exact le_of_eq rfl

/-! ## What the body leaves in the output's buffer -/

/-- One staging buffer of the output, through which its contents are read. -/
abbrev outView : View sig .tc .vmem S512x1024 .f32 := (Memref.whole cc0_stg4_0 : Memref sig .tc .vmem S512x1024 .f32).view

/-- The flag at point `t`. -/
abbrev live (t : Fin (cfgA m hR).N) : Prop := k0_cond1 (flagA (crd m hR t) (tabs m 1)) = 1#1

theorem dead_zero (t : Fin (cfgA m hR).N) (h : ¬ live m hR t) : k0_cond2 (flagB (crd m hR t) (tabs m 1)) = 1#1 :=
  zero_of_nonneg _ (le_of_le_of_eq (hR.flag _) (congrArg BitVec.toInt (flagA_eq (crd m hR t) (flags m)).symm)) h

theorem live_nonzero (t : Fin (cfgA m hR).N) (h : live m hR t) : ¬ k0_cond2 (flagB (crd m hR t) (tabs m 1)) = 1#1 :=
  not_zero_of_live _ h

/-- The live run and the dead run at point `t`. -/
abbrev liveAt (c : Dev nD) (t : Fin (cfgA m hR).N) (h : live m hR t) :=
  runLive c (crd m hR t) (st0 m hR t) (wh0 m hR t) (st1 m hR t) (wh1 m hR t) (st2 m hR t) (wh2 m hR t) (st3 m hR t) (wh3 m hR t)
    (st4 m hR t) (wh4 m hR t) (tabs m 0) (tabs m 1) (blk m hR c (0 : Fin 5) t) (blk m hR c (1 : Fin 5) t) (blk m hR c (2 : Fin 5) t) (blk m hR c (3 : Fin 5) t)
    h (live_nonzero m hR t h)
abbrev deadAt (c : Dev nD) (t : Fin (cfgA m hR).N) (h : ¬ live m hR t) :=
  runDead c (crd m hR t) (st0 m hR t) (wh0 m hR t) (st1 m hR t) (wh1 m hR t) (st2 m hR t) (wh2 m hR t) (st3 m hR t) (wh3 m hR t)
    (st4 m hR t) (wh4 m hR t) (tabs m 0) (tabs m 1) (blk m hR c (0 : Fin 5) t) (blk m hR c (1 : Fin 5) t) (blk m hR c (2 : Fin 5) t) (blk m hR c (3 : Fin 5) t)
    h (dead_zero m hR t h)

/-- Either run stores the whole output block. -/
theorem liveCover (c : Dev nD) (t : Fin (cfgA m hR).N) (h : live m hR t) (y : S512x1024.Idx) : ∃ pc ∈ (liveAt m hR c t h).1, y ∈ pc.1.set :=
  View.cover_of_tiledL (liveAt m hR c t h).1 S512x1024.size (by sl_kernel_rfl) y
theorem deadCover (c : Dev nD) (t : Fin (cfgA m hR).N) (h : ¬ live m hR t) (y : S512x1024.Idx) : ∃ pc ∈ (deadAt m hR c t h).1, y ∈ pc.1.set :=
  View.cover_of_tiledL (deadAt m hR c t h).1 S512x1024.size (by sl_kernel_rfl) y

/-- The output's block after point `t`. -/
def outAt (c : Dev nD) (t : Fin (cfgA m hR).N) : Vec F S512x1024 .f32 :=
  if h : live m hR t then outView.read (Elt F) (outView.writes (Elt F) outView.junk (liveAt m hR c t h).1)
  else outView.read (Elt F) (outView.writes (Elt F) outView.junk (deadAt m hR c t h).1)

/-! ## The proof data and the body obligation -/

/-- After each point the inputs' buffers hold their blocks and the output's holds `outAt`; between points the scratch
    holds anything and the body keeps its halves of the tables. -/
def dats (_ : Fin 1) (c : Dev nD) : Dat τ (Elt F) Unit ℕ (UR sig nD τ) ℕ (cfgA m hR) c where
  A w := V m c (Pipeline.arrRef spec0 w)
  after w t := match w with
    | ⟨0, _⟩ => blk m hR c (0 : Fin 5) t
    | ⟨1, _⟩ => blk m hR c (1 : Fin 5) t
    | ⟨2, _⟩ => blk m hR c (2 : Fin 5) t
    | ⟨3, _⟩ => blk m hR c (3 : Fin 5) t
    | ⟨4, _⟩ => outAt m hR c t
  Φ _ := iprop(Pipeline.ΦA spec0 c ∗ Pipeline.ΦT pre0 (tabs m) c)
  q _ := fullShare
  owed _ := 0

theorem after_0 (c : Dev nD) (t : Fin (cfgA m hR).N) : (dats m hR 0 c).after (0 : Fin 5) t = blk m hR c (0 : Fin 5) t := rfl
theorem after_1 (c : Dev nD) (t : Fin (cfgA m hR).N) : (dats m hR 0 c).after (1 : Fin 5) t = blk m hR c (1 : Fin 5) t := rfl
theorem after_2 (c : Dev nD) (t : Fin (cfgA m hR).N) : (dats m hR 0 c).after (2 : Fin 5) t = blk m hR c (2 : Fin 5) t := rfl
theorem after_3 (c : Dev nD) (t : Fin (cfgA m hR).N) : (dats m hR 0 c).after (3 : Fin 5) t = blk m hR c (3 : Fin 5) t := rfl
theorem after_4 (c : Dev nD) (t : Fin (cfgA m hR).N) : (dats m hR 0 c).after (4 : Fin 5) t = outAt m hR c t := rfl

/-- An input's buffer holds its block when the body runs, fetched there or carried. -/
theorem before_0 (c : Dev nD) (t : Fin (cfgA m hR).N) (d) : (dats m hR 0 c).before (0 : Fin 5) t d = blk m hR c (0 : Fin 5) t :=
  ((dats m hR 0 c).before_in_eq_fetched (0 : Fin 5) rfl (fun _ => rfl) (fun _ _ _ => rfl) (fun _ => rfl) t d).trans rfl
theorem before_1 (c : Dev nD) (t : Fin (cfgA m hR).N) (d) : (dats m hR 0 c).before (1 : Fin 5) t d = blk m hR c (1 : Fin 5) t :=
  ((dats m hR 0 c).before_in_eq_fetched (1 : Fin 5) rfl (fun _ => rfl) (fun _ _ _ => rfl) (fun _ => rfl) t d).trans rfl
theorem before_2 (c : Dev nD) (t : Fin (cfgA m hR).N) (d) : (dats m hR 0 c).before (2 : Fin 5) t d = blk m hR c (2 : Fin 5) t :=
  ((dats m hR 0 c).before_in_eq_fetched (2 : Fin 5) rfl (fun _ => rfl) (fun _ _ _ => rfl) (fun _ => rfl) t d).trans rfl
theorem before_3 (c : Dev nD) (t : Fin (cfgA m hR).N) (d) : (dats m hR 0 c).before (3 : Fin 5) t d = blk m hR c (3 : Fin 5) t :=
  ((dats m hR 0 c).before_in_eq_fetched (3 : Fin 5) rfl (fun _ => rfl) (fun _ _ _ => rfl) (fun _ => rfl) t d).trans rfl

/-- The tables one by one; the scratch with the generator register. -/
theorem tables_eq (c : Dev nD) (v : pre0.Contents (Elt F)) :
    (Pipeline.ΦT pre0 v c : sProp 𝕄)
      = iprop((tabE.view.loc (c : Thread nD τ) ↦{fullShare.right} v 0) ∗ (tabL.view.loc (c : Thread nD τ) ↦{fullShare.right} v 1)) := by
  unfold Pipeline.ΦT Pipeline.prefHeld
  rw [show (Finset.univ : Finset (Fin 2)) = insert (0 : Fin 2) {(1 : Fin 2)} from by decide, bigSep_insert (by decide), bigSep_singleton]
  rfl

theorem scratch_eq (c : Dev nD) :
    (Pipeline.ΦA spec0 c : sProp 𝕄) = iprop((∃ d, owns (c : Thread nD τ) hid fullShare d) ∗ (∃ r, prngReg c r)) := by
  unfold Pipeline.ΦA; rw [scopedRest0_eq]; simp only [hid, owns_whole]; rfl

/-- The body at point `t`, as the pipeline calls it. -/
abbrev bodyAt (t : Fin (cfgA m hR).N) : Prog (TpuEff nD τ sig (Elt F) Λ₀ .tc) PUnit :=
  cc0_moe_experts (crd m hR t) tabE (Memref.isWhole_whole _) tabL (Memref.isWhole_whole _) (st0 m hR t) (wh0 m hR t) (st1 m hR t) (wh1 m hR t)
    (st2 m hR t) (wh2 m hR t) (st3 m hR t) (wh3 m hR t) (st4 m hR t) (wh4 m hR t) hid (Memref.isWhole_whole _)

/-- The inputs' buffers at their blocks, as the body is handed them and hands them back. -/
abbrev inputs (c : Dev nD) (t : Fin (cfgA m hR).N) : sProp 𝕄 :=
  held c (st0 m hR t) (st1 m hR t) (st2 m hR t) (st3 m hR t) (tabs m 0) (tabs m 1)
    (blk m hR c (0 : Fin 5) t) (blk m hR c (1 : Fin 5) t) (blk m hR c (2 : Fin 5) t) (blk m hR c (3 : Fin 5) t)

/-- The body's triple over `inputs`, either branch. -/
theorem body_triple (c : Dev nD) (t : Fin (cfgA m hR).N) (K : PUnit → sProp 𝕄) :
    iprop(inputs m hR c t ∗ (∃ d, owns (c : Thread nD τ) (st4 m hR t) fullShare d) ∗ (∃ d, owns (c : Thread nD τ) hid fullShare d)
        ∗ (iprop(inputs m hR c t ∗ owns (c : Thread nD τ) (st4 m hR t) fullShare (outAt m hR c t) ∗ (∃ d, owns (c : Thread nD τ) hid fullShare d)) -∗ K ⟨⟩))
      ⊢ wp frame (wpE (defs₀ (F := F)) Variants.none c none) Set.univ (bodyAt m hR t) K := by
  by_cases h : live m hR t
  · have ho : outAt m hR c t = outView.read (Elt F) (outView.writes (Elt F) outView.junk (liveAt m hR c t h).1) := dif_pos h
    rw [ho]
    iintro ⟨HI, HO, HS, Hk⟩
    iapply ((liveAt m hR c t h).2.2 K)
    isplitl [HI]; · iexact HI
    isplitl [HO]; · iexact HO
    isplitl [HS]; · iexact HS
    iintro ⟨HI, ⟨%e, HO⟩, ⟨%f, HS⟩⟩
    iapply Hk
    isplitl [HI]; · iexact HI
    isplitl [HO]
    · unfold owns; iexists _; isplitr
      swap; · iexact HO
      ipureintro; exact View.read_writes_of_cover _ _ _ _ _ (liveCover m hR c t h)
    iexists _; unfold owns; iexists _; isplitr
    swap; · iexact HS
    ipureintro; rfl
  · have ho : outAt m hR c t = outView.read (Elt F) (outView.writes (Elt F) outView.junk (deadAt m hR c t h).1) := dif_neg h
    rw [ho]
    iintro ⟨HI, HO, HS, Hk⟩
    iapply ((deadAt m hR c t h).2 K)
    isplitl [HI]; · iexact HI
    isplitl [HO]; · iexact HO
    iintro ⟨HI, ⟨%e, HO⟩⟩
    iapply Hk
    isplitl [HI]; · iexact HI
    isplitl [HO]
    · unfold owns; iexists _; isplitr
      swap; · iexact HO
      ipureintro; exact View.read_writes_of_cover _ _ _ _ _ (deadCover m hR c t h)
    iexact HS

set_option maxHeartbeats 2000000 in
/-- The library's body obligation, at every point. -/
theorem body_obligation (c : Dev nD) : BodyObligation (dats m hR 0 c) (defs₀ (F := F)) Variants.none () Set.univ := fun t => by
  rw [bigSep_W0, bigSep_W0]
  have i4 : (cfgA m hR).idle (4 : Fin 5) ((cfgA m hR).grid.coords t) = false := idle4 m hR _
  rewrite [i4]
  simp only [before_0, before_1, before_2, before_3, after_0, after_1, after_2, after_3, after_4]
  rewrite [show (dats m hR 0 c).Φ t.succ = iprop(Pipeline.ΦA spec0 c ∗ Pipeline.ΦT pre0 (tabs m) c) from rfl,
    show (dats m hR 0 c).Φ t.castSucc = iprop(Pipeline.ΦA spec0 c ∗ Pipeline.ΦT pre0 (tabs m) c) from rfl,
    show (dats m hR 0 c).owesAt () t.succ = (dats m hR 0 c).owesAt () t.castSucc from rfl, tables_eq, scratch_eq]
  iintro ⟨⟨⟨HS, Hg⟩, HT0, HT1⟩, Ho, ⟨%d0, H0⟩, ⟨%d1, H1⟩, ⟨%d2, H2⟩, ⟨%d3, H3⟩, ⟨%d4, H4⟩⟩
  iapply (body_triple m hR c t _)
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [H4]; · iexists _; iexact H4
  isplitl [HS]; · iexact HS
  iintro ⟨⟨H0, H1, H2, H3, HT0, HT1⟩, H4, HS⟩
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-! ## The launch and the frame -/

set_option backward.isDefEq.respectTransparency.types false in
/-- The whole program runs to the end from these tables: each array at what the proof data computes, every other
    buffer unchanged, every counter at zero. -/
theorem run_main_quiescent (hR : Routed m) : θ_run defs (onTc (τ := τ) (main (F := F))) (s₀ m ρ)
    (fun r => Pipeline.FramePost (pcs m hR) (dats m hR) 0 (V m) r ∧ r.2.sem = fun _ => 0) :=
  Pipeline.θ_run_frameP (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m)
    (hmain := Pipeline.hmainP_region pcfgs 0 defs₀ Variants.none m main fun c => (main_chain c).trans rfl)
    (hA := fun _ _ => rfl) (hpf := fun c k => by rw [Subsingleton.elim c 0]; rfl) (hΦ := fun _ _ => rfl)

/-- The tables are no window's array. -/
theorem off0 : ∀ w : Fin 5, (spec0 w).arr.view.ref ≠ main_arg0 := by decide
theorem off1 : ∀ w : Fin 5, (spec0 w).arr.view.ref ≠ main_arg1 := by decide

/-- The arguments after a run. -/
theorem kept {r : PUnit × MemSt nD τ sig (Elt F)} (h : Pipeline.FramePost (pcs m hR) (dats m hR) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (Pipeline.mem_restRefs_of main_arg0 (by decide) off0), (h c).2 main_arg1 (Pipeline.mem_restRefs_of main_arg1 (by decide) off1),
    ((h c).1 (0 : Fin 5)).trans ((dats m hR 0 c).arrAt_in (0 : Fin 5) rfl _), ((h c).1 (1 : Fin 5)).trans ((dats m hR 0 c).arrAt_in (1 : Fin 5) rfl _),
    ((h c).1 (2 : Fin 5)).trans ((dats m hR 0 c).arrAt_in (2 : Fin 5) rfl _), ((h c).1 (3 : Fin 5)).trans ((dats m hR 0 c).arrAt_in (3 : Fin 5) rfl _)⟩

/-- The frame: the arguments end unchanged and every counter reads zero. -/
theorem frame (hR : Routed m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m hR h.1, h.2⟩) (run_main_quiescent m ρ hR)

end Cert.KernelIdeal.Moe

end
-- ==== Proof.MoeRead.lean ====
/- The experts' reference, read at one row and one column: the gathered weights are those of the row's block's expert,
   and the entry is a plain expression in the arguments. -/
module

public import proofs.«01_k».proof.Proof.Gen.ReferenceIdeal.Read
public import Idealize.ShloMosaic.Lib.Pipeline.ValueKit
public import Idealize.ShloMosaic.Lib.Affine
public import Idealize.ShloMosaic.Lib.WordCmp

@[expose] public section

set_option maxRecDepth 16384

noncomputable section

namespace Cert.ReferenceIdeal.Moe

open Cert.ReferenceIdeal Cert.ReferenceIdeal.Gen Cert.ReferenceIdeal.Read
open Idealize.ShloMosaic Idealize.ShloMosaic.TcCoe Idealize.SL.Sem

/-- A gather of whole matrices along the first axis, one per entry of a column of numbers: the entry at `(b, k, j)` is
    the operand's at `(e, k, j)` when the column's entry `b` is the number `e`. -/
theorem gather_matrix {α : Type} {N B K J : Nat} (d : GatherDims ⟨3, ![N, K, J]⟩ ⟨2, ![B, 1]⟩ ⟨3, ![B, K, J]⟩)
    (hd : d.offsetDims = [1, 2] ∧ d.collapsedSliceDims = [0] ∧ d.operandBatchingDims = [] ∧ d.startIndexMap = [0]
      ∧ d.indexVectorDim = 1) (x : (⟨3, ![N, K, J]⟩ : Shape).Idx → α) (n : IVec ⟨2, ![B, 1]⟩ 32)
    (b : Fin B) (k : Fin K) (j : Fin J) (e : Fin N) (hn : (n (ix2 b 0)).toInt = e.val) :
    Host.gather d x n (ix3 b k j) = x (ix3 e k j) := by
  obtain ⟨o, c, ob, sb, sm, iv, ss, wf⟩ := d
  obtain ⟨rfl, rfl, rfl, rfl, rfl⟩ := hd
  unfold Host.gather
  have hs : ss 0 = 1 := wf.2.2.2.2.2.2.2.2.2.2.2.1 0 (List.mem_singleton.2 rfl)
  refine congrArg x (funext fun a => Fin.ext ?_)
  match a with
  | ⟨0, _⟩ =>
    refine (congrArg₂ (fun i s : ℕ => min i (N - s) + 0 + 0)
      (congrArg (fun i => (n i).toInt.toNat) (?_ : _ = ix2 b 0)) hs).trans ?_
    · funext a'
      match a' with
      | ⟨0, _⟩ => rfl
      | ⟨1, _⟩ => rfl
    · show min (n (ix2 b 0)).toInt.toNat (N - 1) + 0 + 0 = e.val
      have := e.isLt
      omega
  | ⟨1, _⟩ => exact (Nat.zero_add _).trans rfl
  | ⟨2, _⟩ => exact (Nat.zero_add _).trans rfl

/-- The expert of a block: the table's entry. -/
def expert (t : IVec S144 32) (b : Fin 144) : Fin 8 := ⟨min (t (ix1 b)).toNat 7, by omega⟩

theorem expert_toInt (t : IVec S144 32) (h : ∀ i, (t i).toNat < 8) (b : Fin 144) : (t (ix1 b)).toInt = (expert t b).val := by
  have := h (ix1 b)
  unfold expert
  rw [BitVec.toInt_eq_toNat_cond]
  simp only
  split <;> omega

/-- A number below eight is not negative, so the reference's wrapping of negative numbers keeps it. -/
theorem wrap (w : BitVec 32) (h : w.toNat < 8) : Scalar.select (IntOp.cmpi .slt w 0#32) (IntOp.addi w 8#32) w = w := by
  have hw : w = BitVec.ofNat 32 w.toNat := (by simp)
  generalize w.toNat = k at h hw
  subst hw
  interval_cases k <;> rfl

section Weights
variable (t : IVec S144 32) (h : ∀ i, (t i).toNat < 8) (b : Fin 144)
include h

theorem first_at (w : FVec Ideal S8x1024x2816 .bf16) (k : Fin 1024) (j : Fin 2816) :
    val_main_v10 (F := Ideal) t w (ix3 b k j) = w (ix3 (expert t b) k j) := by
  refine gather_matrix _ ⟨rfl, rfl, rfl, rfl, rfl⟩ _ _ b k j (expert t b) ?_
  rw [← expert_toInt t h b, ← wrap _ (h (ix1 b))]
  pointwise [val_main_v9, val_main_v8, val_main_v7, val_main_v6, val_main_v5, val_main_v4, val_main_c, val_main_c_0]

theorem third_at (w : FVec Ideal S8x1024x2816 .bf16) (k : Fin 1024) (j : Fin 2816) :
    val_main_v18 (F := Ideal) t w (ix3 b k j) = w (ix3 (expert t b) k j) :=
  first_at t h b w k j

theorem second_at (w : FVec Ideal S8x2816x1024 .bf16) (k : Fin 2816) (j : Fin 1024) :
    val_main_v26 (F := Ideal) t w (ix3 b k j) = w (ix3 (expert t b) k j) := by
  refine gather_matrix _ ⟨rfl, rfl, rfl, rfl, rfl⟩ _ _ b k j (expert t b) ?_
  rw [← expert_toInt t h b, ← wrap _ (h (ix1 b))]
  pointwise [val_main_v25, val_main_v24, val_main_v23, val_main_v22, val_main_v21, val_main_v20, val_main_c_3, val_main_c_4]

end Weights

/-- One entry of a live block: the row through the block's expert's gated feed-forward, times the row's weight. Column
    1024 of the row names the first of its two experts, columns 1026 and 1027 hold the two weights. -/
def moeAt (t : IVec S144 32) (x : FVec Ideal S73728x1152 .f32) (w1 w3 : FVec Ideal S8x1024x2816 .bf16)
    (w2 : FVec Ideal S8x2816x1024 .bf16) (b : Fin 144) (r : Fin 73728) (d : Fin 1024) : EReal :=
  (∑ j : Fin 2816, ((∑ k : Fin 1024, x (ix2 r ⟨k, by omega⟩) * w1 (ix3 (expert t b) k j))
      * Ideal.logistic (∑ k : Fin 1024, x (ix2 r ⟨k, by omega⟩) * w1 (ix3 (expert t b) k j))
      * ∑ k : Fin 1024, x (ix2 r ⟨k, by omega⟩) * w3 (ix3 (expert t b) k j)) * w2 (ix3 (expert t b) j d))
    * if x (ix2 r 1024) = FloatOps.sitofp (F := Ideal) .f32 (t (ix1 b)) then x (ix2 r 1026) else x (ix2 r 1027)

/-- One entry of the call's result: zero in a block that is not live. -/
def rowAt (t l : IVec S144 32) (x : FVec Ideal S73728x1152 .f32) (w1 w3 : FVec Ideal S8x1024x2816 .bf16)
    (w2 : FVec Ideal S8x2816x1024 .bf16) (r : Fin 73728) (d : Fin 1024) : EReal :=
  if 0 < (l (ix1 ⟨r / 512, by omega⟩)).toInt then moeAt t x w1 w3 w2 ⟨r / 512, by omega⟩ r d else 0

theorem ref_at (t l : IVec S144 32) (h : ∀ i, (t i).toNat < 8) (x : FVec Ideal S73728x1152 .f32)
    (w1 w3 : FVec Ideal S8x1024x2816 .bf16) (w2 : FVec Ideal S8x2816x1024 .bf16) (r : Fin 73728) (d : Fin 1024) :
    val_main_v46 (F := Ideal) t l x w1 w3 w2 (ix2 r d) = rowAt t l x w1 w3 w2 r d := by
  pointwise [val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v2, val_main_v1, val_main_v0,
    val_main_call0_v0, val_main_call0_v1, val_main_call0_v2,
    val_main_call0_v3, val_main_call0_v4, val_main_call0_v5, val_main_call0_cst, val_main_call0_cst_0,
    val_main_call2_v0, val_main_call2_v1, val_main_call2_v2, val_main_cst, val_main_c_5]
  simp only [first_at t h, third_at t h, second_at t h]
  unfold rowAt
  generalize l (ix1 ⟨r / 512, by omega⟩) = f
  by_cases hl : 0 < f.toInt
  · rw [if_pos hl, (IntOp.cmpi_sgt (x := f) (y := 0#32)).2 hl]
    rfl
  · rw [if_neg hl, ValueIdx.eq_zero_of_ne_one fun h' => hl ((IntOp.cmpi_sgt (x := f) (y := 0#32)).1 h')]
    exact Ideal.ofBits_zero_f32

end Cert.ReferenceIdeal.Moe
-- ==== Proof.MoeValue.lean ====
/- The array the experts' call leaves, entry by entry: the two runs' stores read at an index, and the blocks the tables
   choose read off the weights. -/
module

public import proofs.«01_k».proof.Proof.MoeFrame
public import proofs.«01_k».proof.Proof.MoeRead
public import Idealize.ShloMosaic.Lib.Pipeline.ValueKit
public import Idealize.ShloMosaic.Lib.Pipeline.Covers

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (hR : Routed m)

/-- A point's number is its coordinate and its block's row of the output. -/
theorem point : ∀ t : Fin grid0.N, (grid0.coords t 0).val = t.val ∧ cc0_transform_0 (grid0.coords t) = ![t.val, 0]
    ∧ cc0_transform_4 (grid0.coords t) = ![t.val, 0] := by decide +kernel

/-- The output's blocks cover its array. -/
theorem covers : ((cfgA m hR).win (4 : Fin 5)).Covers := by
  have hsz : ∀ a : Fin 2, 0 < S512x1024.size a := by decide
  have h0 : ∀ a : Fin 2, (S73728x1024.size a + S512x1024.size a - 1) / S512x1024.size a = ![144, 1] a := by decide
  refine Pipeline.Window.covers_of_index_surj _ rfl hsz fun β => ?_
  have b0 : (β (0 : Fin 2)).val < 144 := lt_of_lt_of_eq (β (0 : Fin 2)).isLt (h0 0)
  have b1 : (β (1 : Fin 2)).val < 1 := lt_of_lt_of_eq (β (1 : Fin 2)).isLt (h0 1)
  refine ⟨⟨(β (0 : Fin 2)).val, b0⟩, fun a => (congrFun (point ⟨(β (0 : Fin 2)).val, b0⟩).2.2 a).trans ?_⟩
  match a with
  | ⟨0, _⟩ => rfl
  | ⟨1, h⟩ => exact (Nat.lt_one_iff.1 b1).symm

/-- The block of rows at a point. -/
theorem rows_at (c : Dev nD) (t : Fin grid0.N) (a : Fin 512) (b : Fin 1152) :
    blk m hR c (0 : Fin 5) t (ix2 a b)
      = m ((c : Thread nD τ).loc main_arg2) (ix2 ⟨t.val * 512 + a.val, by have := t.isLt; have : grid0.N = 144 := rfl; omega⟩ b) := by
  have e : ((cfgA m hR).win (0 : Fin 5)).index t = ![t.val, 0] := (point t).2.1
  unfold blk
  blk_ext [V, e]

/-- The number of a point's expert: the table's entry, as the index of the weights' blocks and as the body loads it. -/
abbrev expertAt (t : Fin grid0.N) : Fin 8 := Cert.ReferenceIdeal.Moe.expert (experts m) ⟨t.val, t.isLt⟩

theorem word_at (t : Fin grid0.N) (h : ∀ a : Fin 1, k0_off2 (grid0.coords t) a + S1.size a ≤ S144.size a) (h' : S1.numel = 1) :
    View.readAt (Elt Ideal) (View.whole main_arg0) (Rect.unit (s := S144) (k0_off2 (grid0.coords t)) S1.size h).toLoadRect
      (tabs m 0) (Shape.Idx.first (h'.symm ▸ Nat.one_pos)) = experts m (ix1 ⟨t.val, t.isLt⟩) := by
  refine congrArg (experts m) (funext fun a => Fin.ext ?_)
  have e : ∀ t : Fin grid0.N, k0_off2 (grid0.coords t) 0 = t.val := by decide +kernel
  match a with
  | ⟨0, _⟩ => exact e t

theorem index_at (hR : Routed m) (t : Fin grid0.N) (h : ∀ a : Fin 1, k0_off1 (grid0.coords t) a + S1.size a ≤ S144.size a) (h' : S1.numel = 1) :
    (![((tabs m).at 0 (Rect.unit (s := S144) (k0_off2 (grid0.coords t)) S1.size h) h').toNat, (0#32).toNat, (0#32).toNat] : Fin 3 → ℕ)
      = ![(expertAt m t).val, 0, 0] := by
  have e : (tabs m).at 0 (Rect.unit (s := S144) (k0_off2 (grid0.coords t)) S1.size h) h' = experts m (ix1 ⟨t.val, t.isLt⟩) :=
    word_at m t h h'
  rw [e]
  have := hR.expert (ix1 ⟨t.val, t.isLt⟩)
  refine congrArg (![·, 0, 0]) ?_
  unfold expertAt Cert.ReferenceIdeal.Moe.expert
  simp only
  omega

/-- The two matrices of the hidden layer and the one after it, at a point: those of the point's expert. -/
theorem first_at (c : Dev nD) (t : Fin grid0.N) (a : Fin 1024) (b : Fin 2816) :
    blk m hR c (1 : Fin 5) t (ix3 0 a b) = m ((c : Thread nD τ).loc main_arg3) (ix3 (expertAt m t) a b) := by
  have e : ((cfgA m hR).win (1 : Fin 5)).index t = ![(expertAt m t).val, 0, 0] := index_at m hR t (k0_off1_inb _) numel1_S1
  unfold blk
  blk_ext [V, e]

theorem third_at (c : Dev nD) (t : Fin grid0.N) (a : Fin 1024) (b : Fin 2816) :
    blk m hR c (2 : Fin 5) t (ix3 0 a b) = m ((c : Thread nD τ).loc main_arg4) (ix3 (expertAt m t) a b) := by
  have e : ((cfgA m hR).win (2 : Fin 5)).index t = ![(expertAt m t).val, 0, 0] := index_at m hR t (k0_off1_inb _) numel1_S1
  unfold blk
  blk_ext [V, e]

theorem second_at (c : Dev nD) (t : Fin grid0.N) (a : Fin 2816) (b : Fin 1024) :
    blk m hR c (3 : Fin 5) t (ix3 0 a b) = m ((c : Thread nD τ).loc main_arg5) (ix3 (expertAt m t) a b) := by
  have e : ((cfgA m hR).win (3 : Fin 5)).index t = ![(expertAt m t).val, 0, 0] := index_at m hR t (k0_off1_inb _) numel1_S1
  unfold blk
  blk_ext [V, e]

/-- The hidden layer of a block of rows at one row and one column, from the block and its expert's two matrices. -/
def hidden (x : FVec Ideal S512x1152 .f32) (w1 w3 : FVec Ideal S1x1024x2816 .bf16) : FVec Ideal S512x2816 .bf16 := fun j =>
  (∑ k : Fin 1024, x (ix2 (j 0) ⟨k, by omega⟩) * w1 (ix3 0 k (j 1)))
    * Ideal.logistic (∑ k : Fin 1024, x (ix2 (j 0) ⟨k, by omega⟩) * w1 (ix3 0 k (j 1)))
    * ∑ k : Fin 1024, x (ix2 (j 0) ⟨k, by omega⟩) * w3 (ix3 0 k (j 1))

/-- One tile of 256 columns of the hidden layer, from the tile's columns of the two matrices. -/
theorem hidden_tile (x : FVec Ideal S512x1152 .f32) (w1 w3 : FVec Ideal S1x1024x2816 .bf16) (f : FVec Ideal S512x1024 .f32)
    (a b : FVec Ideal S1x1024x256 .bf16) (u : S512x256.Idx) (y : S512x2816.Idx) (h0 : (y 0 : ℕ) = u 0)
    (hf : ∀ (r : Fin 512) (k : Fin 1024), f (ix2 r k) = x (ix2 r ⟨k, by omega⟩))
    (ha : ∀ k : Fin 1024, a (ix3 0 k (u 1)) = w1 (ix3 0 k (y 1))) (hb : ∀ k : Fin 1024, b (ix3 0 k (u 1)) = w3 (ix3 0 k (y 1))) :
    k0_pay3 (F := Ideal) f a b u = hidden x w1 w3 y := by
  have h : u 0 = y 0 := Fin.ext h0.symm
  pointwise [k0_pay3, k0_pay2, hidden, ha, hb, hf, h]

/-- What a live point leaves: its rows through its expert. -/
theorem outLive (t : Fin (cfgA m hR).N) (h : live m hR t) (y : S512x1024.Idx) (r : Fin 73728) (hr : r.val = t.val * 512 + (y 0).val) :
    outAt m hR 0 t y = Cert.ReferenceIdeal.Moe.moeAt (experts m) (m (((0 : Dev nD) : Thread nD τ).loc main_arg2))
      (m (((0 : Dev nD) : Thread nD τ).loc main_arg3)) (m (((0 : Dev nD) : Thread nD τ).loc main_arg4))
      (m (((0 : Dev nD) : Thread nD τ).loc main_arg5)) ⟨t.val, t.isLt⟩ r (y 1) := by
  unfold outAt
  rw [dif_pos h]
  unfold liveAt
  frame_out
  generalize hb0 : blk m hR 0 (0 : Fin 5) t = X
  generalize hb1 : blk m hR 0 (1 : Fin 5) t = A
  generalize hb2 : blk m hR 0 (2 : Fin 5) t = B
  generalize hb3 : blk m hR 0 (3 : Fin 5) t = W
  generalize hS : View.readCov (Val := Elt Ideal) (View.whole cc0_scratch0) _ (Rect.unit _ _ _).toLoadRect = S
  obtain rfl : S = hidden X A B := by
    rw [← hS, View.readCov_eq_canon']
    funext j
    generalize hz : LoadRect.idx _ j = z
    obtain rfl : z = j := by
      rw [← hz]
      funext a
      refine Fin.ext ?_
      rw [Rect.idx_unit_val]
      fin_cases a <;> exact Nat.zero_add _
    clear hz hS
    canon_tiles x h
    all_goals
      refine hidden_tile _ _ _ _ _ _ _ _ h0 ?_ ?_ ?_
      · intro r k; pointwise
      all_goals
        intro k
        pointwise
        blk_ext []
  clear hS
  have e := word_at m t (k0_off2_inb _) numel1_S1
  have er : ∀ k, X (ix2 (y 0) k) = m (((0 : Dev nD) : Thread nD τ).loc main_arg2) (ix2 r k) := fun k => by
    rw [← hb0]
    refine (rows_at m hR 0 t (y 0) k).trans (congrArg (fun r => m (((0 : Dev nD) : Thread nD τ).loc main_arg2) (ix2 r k)) (Fin.ext hr.symm))
  have e1 : ∀ a b, A (ix3 0 a b) = _ := fun a b => hb1 ▸ first_at m hR 0 t a b
  have e2 : ∀ a b, B (ix3 0 a b) = _ := fun a b => hb2 ▸ third_at m hR 0 t a b
  have e3 : ∀ a b, W (ix3 0 a b) = _ := fun a b => hb3 ▸ second_at m hR 0 t a b
  pointwise [k0_pay18, hidden, er, e1, e2, e3]
  unfold Cert.ReferenceIdeal.Moe.moeAt
  refine congrArg₂ (· * ·) rfl (if_congr (iff_of_eq (congrArg₂ Eq rfl ?_)) rfl rfl)
  exact congrArg (fun w : BitVec 32 => ((w.toInt : ℝ) : EReal)) e

/-- A dead point leaves zeros. -/
theorem outDead (c : Dev nD) (t : Fin (cfgA m hR).N) (h : ¬ live m hR t) (y : S512x1024.Idx) : outAt m hR c t y = 0 := by
  unfold outAt
  rw [dif_neg h]
  unfold deadAt
  frame_out
  pointwise [k0_pay1]

/-- The flag a point tests is the table's entry. -/
theorem live_iff (t : Fin grid0.N) : live m hR t ↔ 0 < (flags m (ix1 ⟨t.val, t.isLt⟩)).toInt := by
  refine (cond1_iff _).trans (iff_of_eq (congrArg (fun w : BitVec 32 => 0 < w.toInt) ((flagA_eq (F := Ideal) _ (flags m)).trans ?_)))
  refine congrArg (flags m) (funext fun a => Fin.ext ?_)
  match a with
  | ⟨0, _⟩ => exact (point t).1

/-- What any point leaves, at a row and a column of the array. -/
theorem outAt_eq (t : Fin grid0.N) (y : S512x1024.Idx) (r : Fin 73728) (d : Fin 1024) (hr : r.val = t.val * 512 + (y 0).val) (hd : d = y 1) :
    outAt m hR 0 t y = Cert.ReferenceIdeal.Moe.rowAt (experts m) (flags m) (m (((0 : Dev nD) : Thread nD τ).loc main_arg2))
      (m (((0 : Dev nD) : Thread nD τ).loc main_arg3)) (m (((0 : Dev nD) : Thread nD τ).loc main_arg4))
      (m (((0 : Dev nD) : Thread nD τ).loc main_arg5)) r d := by
  have hb : (⟨r.val / 512, by omega⟩ : Fin 144) = ⟨t.val, t.isLt⟩ := Fin.ext (by
    have : (y 0).val < 512 := (y 0).isLt
    simp only; omega)
  unfold Cert.ReferenceIdeal.Moe.rowAt
  rw [hb, hd]
  by_cases h : live m hR t
  · rw [if_pos ((live_iff m hR t).1 h)]
    exact outLive m hR t h y r hr
  · rw [if_neg fun h' => h ((live_iff m hR t).2 h')]
    exact outDead m hR 0 t h y

/-- The array the call leaves. -/
theorem final (c : Dev nD) : (dats m hR 0 c).arrAt (4 : Fin 5) (cfgA m hR).N = fun j : S73728x1024.Idx =>
    Cert.ReferenceIdeal.Moe.rowAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (j 0) (j 1) := by
  obtain rfl : c = 0 := Subsingleton.elim _ _
  refine (dats m hR 0 0).arrAt_eq_of_covers (4 : Fin 5) _ (covers m hR) fun t _ y => ?_
  have e : ((cfgA m hR).win (4 : Fin 5)).index t = ![t.val, 0] := (point t).2.2
  blk_simp [after_4]
  refine outAt_eq m hR t y _ _ ?_ (Fin.ext ?_) <;> blk_simp [e]

end Cert.KernelIdeal.Moe
-- ==== Proof.Pre.lean ====
/- The precondition, read: every block's expert is one of the eight, no live flag is negative. -/
module

public import proofs.«01_k».proof.Pre_routed
public import proofs.«01_k».proof.Proof.Gen.Pre_routed
public import Idealize.ShloMosaic.Lib.ReduceAll
public import Idealize.ShloMosaic.Lib.Affine
public import Idealize.ShloMosaic.Lib.WordCmp

@[expose] public section

namespace Cert.Pre_routed.Read

open Idealize.ShloMosaic Cert.Pre_routed

variable {F : FTy → Type} [FloatOps F]

instance : Subsingleton S_.Idx := ⟨fun _ _ => funext fun a => a.elim0⟩

/-- The predicate's two conjuncts, entry by entry. -/
theorem bounds (a0 a1 : IVec S144 32) (a2 : FVec F S73728x1152 .f32) (a3 a4 : FVec F S8x1024x2816 .bf16) (a5 : FVec F S8x2816x1024 .bf16)
    (h : letI := Cert.Pre_routed.Gen.facts; Cert.Pre_routed.fn (F := F) a0 a1 a2 a3 a4 a5 = fun _ => 1#1) :
    (∀ x, (a0 x).toNat < 8) ∧ ∀ x, 0 ≤ (a1 x).toInt := by
  letI := Cert.Pre_routed.Gen.facts
  obtain ⟨he, hf⟩ := IntOp.andi_eq_one.1 (congrFun h (fun a => a.elim0))
  refine ⟨fun x => ?_, fun x => IntOp.cmpi_sge.1 (Host.reduce_andi_all _ _ _ _ _ hf x)⟩
  obtain ⟨hge, hlt⟩ := IntOp.andi_eq_one.1 (Host.reduce_andi_all _ _ _ _ _ he x)
  have hge : 0 ≤ (a0 x).toInt := IntOp.cmpi_sge.1 hge
  have hlt : (a0 x).toInt < 8 := IntOp.cmpi_slt.1 hlt
  rw [BitVec.toInt] at hge hlt
  split at hge <;> simp_all <;> omega

end Cert.Pre_routed.Read
-- ==== Proof.Moe.lean ====
/- The experts' frames, of the words' program and of its ideal reading: the run of the ideal program's text is stated
   over any floats, and the two texts are the same. Then the equation: the call and the reference end with one array. -/
module

public import proofs.«01_k».proof.Defs
public import proofs.«01_k».proof.Proof.Gen.Kernel.Skeleton
public import proofs.«01_k».proof.Proof.Gen.ReferenceIdeal.Run
public import proofs.«01_k».proof.Proof.MoeValue
public import proofs.«01_k».proof.Proof.Pre

@[expose] public section

set_option maxRecDepth 16384

namespace Cert.MoeProof

open Idealize.ShloMosaic Idealize.ShloMosaic.TcCoe Idealize.ShloMosaic.ValueIdx Idealize.SL.Sem

/-- The precondition of the ideal program's memory says that its tables route. -/
theorem routed_ideal (m : (ℓ : Loc Cert.KernelIdeal.nD Cert.KernelIdeal.τ Cert.KernelIdeal.sig) → Buf (Elt Ideal) ℓ)
    (h : letI := Cert.Pre_routed.Gen.facts; Cert.Pre_KernelIdeal m) : Cert.KernelIdeal.Moe.Routed m :=
  let b := Cert.Pre_routed.Read.bounds _ _ _ _ _ _ (h 0)
  ⟨b.1, b.2⟩

theorem frame_ideal : Cert.quiescent_KernelIdeal (hKernelIdeal := Cert.KernelIdeal.Gen.facts) (hPre_routed := Cert.Pre_routed.Gen.facts) :=
  fun m ρ h => Cert.KernelIdeal.Moe.frame m ρ (routed_ideal m h)

theorem routed_bits (m : (ℓ : Loc Cert.Kernel.nD Cert.Kernel.τ Cert.Kernel.sig) → Buf (Elt Bits) ℓ)
    (h : letI := Cert.Pre_routed.Gen.facts; Cert.Pre_Kernel m) : Cert.KernelIdeal.Moe.Routed (F := Bits) m :=
  let b := Cert.Pre_routed.Read.bounds _ _ _ _ _ _ (h 0)
  ⟨b.1, b.2⟩

/-- The two programs' runs are one, at the words: their texts, function by function, are equal. -/
theorem run_same : letI := Cert.Kernel.Gen.facts; letI := Cert.KernelIdeal.Gen.facts
    θ_run (Cert.Kernel.defs (F := Bits)) (onTc (τ := Cert.Kernel.τ) (Cert.Kernel.main (F := Bits)))
      = θ_run (Cert.KernelIdeal.defs (F := Bits)) (onTc (τ := Cert.KernelIdeal.τ) (Cert.KernelIdeal.main (F := Bits))) := by
  sl_kernel_rfl

theorem frame_bits : Cert.quiescent_Kernel (hKernel := Cert.Kernel.Gen.facts) (hPre_routed := Cert.Pre_routed.Gen.facts) :=
  fun m ρ h => by
    rw [run_same]
    exact Cert.KernelIdeal.Moe.frame (F := Bits) m ρ (routed_bits m h)

/-- The experts' call and the reference, from equal arguments whose tables route, end with equal arrays: each row is its
    block's expert's swiglu of it times the weight that the row carries for that expert, and zero in a block not live. -/
theorem equal : Cert.algebraic_KernelIdeal_ReferenceIdeal (hKernelIdeal := Cert.KernelIdeal.Gen.facts)
    (hReferenceIdeal := Cert.ReferenceIdeal.Gen.facts) (hPre_routed := Cert.Pre_routed.Gen.facts) := by
  intro m g m' g' hPre hagree
  have hR := routed_ideal m hPre
  refine ⟨fun c => (Cert.KernelIdeal.Moe.dats m hR 0 c).arrAt (4 : Fin 5) (Cert.KernelIdeal.Moe.cfgA m hR).N,
    (θ_run Cert.KernelIdeal.defs _ _).mono (fun r h c => ⟨(h.1 c).1 (4 : Fin 5), Cert.KernelIdeal.Moe.kept m hR h.1 c⟩)
      (Cert.KernelIdeal.Moe.run_main_quiescent m g hR), ?_⟩
  refine (θ_run Cert.ReferenceIdeal.defs _ _).mono (fun r h c => ⟨(h c).1.trans ?_, (h c).2⟩)
    (Cert.ReferenceIdeal.Value.run m' g')
  refine (Cert.ReferenceIdeal.Read.val_main_v46_eq m' c).trans ?_
  obtain ⟨h0, h1, h2, h3, h4, h5⟩ := hagree c
  rw [h0, h1, h2, h3, h4, h5]
  refine Eq.trans ?_ (Cert.KernelIdeal.Moe.final m hR c).symm
  obtain rfl : c = 0 := Subsingleton.elim _ _
  funext j
  exact (congrArg _ (ix2_eta j).symm).trans (Cert.ReferenceIdeal.Moe.ref_at _ _ hR.expert _ _ _ _ (j 0) (j 1))

end Cert.MoeProof
-- ==== Proof.MoeRef.lean ====
module

public import proofs.«01_k».proof.Defs
public import proofs.«01_k».proof.Proof.Gen.ReferenceIdeal.Run
public import proofs.«01_k».proof.Proof.Gen.ReferenceIdeal.Read
public import proofs.«01_k».proof.Proof.Gen.Pre_routed
public import Idealize.ShloMosaic.Lib.Quiescent
public import Idealize.ShloMosaic.Lib.Pipeline.ValueKit

@[expose] public section

set_option maxRecDepth 16384

namespace Cert.MoeProof

open Idealize.ShloMosaic Idealize.ShloMosaic.TcCoe Idealize.SL.Sem

theorem frame_reference : Cert.quiescent_ReferenceIdeal (hReferenceIdeal := Cert.ReferenceIdeal.Gen.facts)
    (hPre_routed := Cert.Pre_routed.Gen.facts) :=
  fun m ρ _ => (θ_run Cert.ReferenceIdeal.defs _ _).mono
    (fun r h => ⟨fun c => (h c).2, sem_eq_zero_of_no_sems (by decide) r.2⟩) (Cert.ReferenceIdeal.Value.run m ρ)

end Cert.MoeProof
-- ==== Proof.FfnRef.lean ====
module

public import proofs.«01_k».proof.Proof.Gen.Reference2Ideal.Read
public import Idealize.ShloMosaic.Lib.Pipeline.ValueKit

@[expose] public section

set_option maxRecDepth 16384

noncomputable section

namespace Cert.Reference2Ideal.Ffn

open Cert.Reference2Ideal Cert.Reference2Ideal.Gen Cert.Reference2Ideal.Read
open Idealize.ShloMosaic Idealize.ShloMosaic.TcCoe Idealize.SL.Sem

/-- One entry of the feed-forward layer: the residual stream plus the gate of the row's position times the gated
    feed-forward of the row. The first 256 of each 4352 rows take the gate of entry 8, the others that of their sample. -/
def ffnAt (f : FVec Ideal S34816x1024 .bf16) (h : FVec Ideal S34816x1024 .f32) (g : FVec Ideal S4x16x8x1024 .f32)
    (w1 w3 : FVec Ideal S1024x2816 .bf16) (w2 : FVec Ideal S2816x1024 .bf16) (r : Fin 34816) (d : Fin 1024) : EReal :=
  h (ix2 r d) + g (ix4 0 ⟨if (r : ℕ) % 4352 < 256 then 8 else r / 4352, by split <;> omega⟩ 5 d) *
    ∑ j : Fin 2816, ((∑ k : Fin 1024, f (ix2 r k) * w1 (ix2 k j)) * Ideal.logistic (∑ k : Fin 1024, f (ix2 r k) * w1 (ix2 k j))
      * ∑ k : Fin 1024, f (ix2 r k) * w3 (ix2 k j)) * w2 (ix2 j d)

theorem ref_at (f : FVec Ideal S34816x1024 .bf16) (h : FVec Ideal S34816x1024 .f32) (g : FVec Ideal S4x16x8x1024 .f32)
    (w1 w3 : FVec Ideal S1024x2816 .bf16) (w2 : FVec Ideal S2816x1024 .bf16) (r : Fin 34816) (d : Fin 1024) :
    val_main_v20 (F := Ideal) f h g w1 w3 w2 (ix2 r d) = ffnAt f h g w1 w3 w2 r d := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_call0_v0, val_main_call0_v1, val_main_call0_v2,
    val_main_call0_v3, val_main_call0_v4, val_main_call0_v5, val_main_call0_cst, val_main_call0_cst_0]
  unfold ffnAt
  refine congrArg (h (ix2 r d) + ·) (congrArg₂ (· * ·) ?_ rfl)
  by_cases hr : (r : ℕ) % 4352 < 256
  · simp only [hr, ↓reduceDIte, ↓reduceIte]
    rfl
  · simp only [hr, ↓reduceDIte, ↓reduceIte]
end Cert.Reference2Ideal.Ffn
-- ==== Proof.FfnValue.lean ====
module

public import proofs.«01_k».proof.Proof.Gen.Kernel2Ideal.Value
public import proofs.«01_k».proof.Proof.FfnRef
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, (grid0.coords t 0).val = t.val ∧ win0_0.index t = ![t.val, 0] ∧ win0_1.index t = ![t.val, 0]
    ∧ win0_2.index t = ![0, 0, 0, 0] ∧ win0_3.index t = ![0, 0] ∧ win0_4.index t = ![0, 0] ∧ win0_5.index t = ![0, 0]
    ∧ win0_6.index t = ![t.val, 0] :=
  (by decide +kernel : ∀ t : Fin grid0.N, _)

/-- The hidden layer of the feed-forward call at one row and one column, from one block of rows. -/
def hid (f : FVec Ideal S1024x1024 .bf16) (w1 w3 : FVec Ideal S1024x2816 .bf16) : FVec Ideal S1024x2816 .bf16 := fun j =>
  (∑ k : Fin 1024, f (ix2 (j 0) k) * w1 (ix2 k (j 1)))
    * Ideal.logistic (∑ k : Fin 1024, f (ix2 (j 0) k) * w1 (ix2 k (j 1)))
    * ∑ k : Fin 1024, f (ix2 (j 0) k) * w3 (ix2 k (j 1))

/-- One tile of 256 columns of the hidden layer, from the tile's columns of the two weights. -/
theorem hid_tile (f : FVec Ideal S1024x1024 .bf16) (w1 w3 : FVec Ideal S1024x2816 .bf16)
    (a b : FVec Ideal S1024x256 .bf16) (x : S1024x256.Idx) (y : S1024x2816.Idx) (h0 : (y 0 : ℕ) = x 0)
    (ha : ∀ k : Fin 1024, a (ix2 k (x 1)) = w1 (ix2 k (y 1))) (hb : ∀ k : Fin 1024, b (ix2 k (x 1)) = w3 (ix2 k (y 1))) :
    k0_pay2 (F := Ideal) f a b x = hid f w1 w3 y := by
  have h : x 0 = y 0 := Fin.ext h0.symm
  pointwise [k0_pay2, hid, ha, hb, h]

/-- The entry of the modulation table whose gate the `q`-th quarter of point `t`'s rows takes. -/
theorem sel : ∀ t : Fin cfg0.N, ∀ q : Fin 4, k0_off1 (grid0.coords t) (BitVec.ofNat 32 q) =
    ![0, if (t.val * 1024 + 256 * q.val) % 4352 < 256 then 8 else (t.val * 1024 + 256 * q.val) / 4352, 0, 0] :=
  (by decide +kernel : ∀ t : Fin grid0.N, ∀ q : Fin 4, _)

set_option maxHeartbeats 1600000 in
/-- The array the call leaves is the feed-forward layer of the arguments, entry by entry. -/
theorem final (c : Dev nD) : (dats m 0 c).arrAt 6 (cfgs 0).N = fun j : S34816x1024.Idx =>
    Cert.Reference2Ideal.Ffn.ffnAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (j 0) (j 1) := by
  refine (dats m 0 c).arrAt_eq_of_covers 6 _ (by decide +kernel) fun t _ y => ?_
  blk_simp
  rw [after0_6]
  unfold outsAt0 out0_A_6
  frame_out
  generalize hS : View.readCov (Val := Elt Ideal) (View.whole cc0_scratch0) _ (Rect.unit _ _ _).toLoadRect = S
  obtain rfl : S = hid (iblk m c 0 t) (iblk m c 3 t) (iblk m c 4 t) := by
    rw [← hS, View.readCov_eq_canon']
    funext j
    generalize hz : LoadRect.idx _ j = z
    obtain rfl : z = j := by
      rw [← hz]
      funext a
      refine Fin.ext ?_
      rw [Rect.idx_unit_val]
      fin_cases a <;> exact Nat.zero_add _
    clear hz hS
    canon_tiles x h
    all_goals
      refine hid_tile _ _ _ _ _ _ _ h0 ?_ ?_ <;> intro k <;> pointwise <;> blk_ext []
  clear hS
  have e0 : k0_off1 (grid0.coords t) 0#32 = _ := sel t 0
  have e1 : k0_off1 (grid0.coords t) 1#32 = _ := sel t 1
  have e2 : k0_off1 (grid0.coords t) 2#32 = _ := sel t 2
  have e3 : k0_off1 (grid0.coords t) 3#32 = _ := sel t 3
  canon_tiles x h
  all_goals
    open_payloads
    pointwise [Cert.Reference2Ideal.Ffn.ffnAt, hid]
    blk_point [iblk, V, idx t]
    all_goals
      simp [e0, e1, e2, e3] <;> first
        | exact h1.symm
        | split <;> split <;> omega
end Cert.Kernel2Ideal.Ffn
-- ==== Proof.Ffn.lean ====
/- The feed-forward call's claims: the call's run ends with the array `FfnValue.lean` names, the reference's run with the
   one `FfnRef.lean` reads, and the two are the same function of the arguments. -/
module

public import proofs.«01_k».proof.Defs
public import proofs.«01_k».proof.Proof.FfnValue
public import proofs.«01_k».proof.Proof.Gen.Kernel2.Frame
public import proofs.«01_k».proof.Proof.Gen.Reference2Ideal.Run
public import Idealize.ShloMosaic.Lib.Quiescent

@[expose] public section

set_option maxRecDepth 16384

namespace Cert.FfnProof

open Idealize.ShloMosaic Idealize.ShloMosaic.TcCoe Idealize.SL.Sem

theorem frame_bits : Cert.quiescent_Kernel2 (hKernel2 := Cert.Kernel2.Gen.facts) :=
  fun m ρ _ => Cert.Kernel2.Gen.frame m ρ

theorem frame_ideal : Cert.quiescent_Kernel2Ideal (hKernel2Ideal := Cert.Kernel2Ideal.Gen.facts) :=
  fun m ρ _ => Cert.Kernel2Ideal.Gen.frame m ρ

theorem frame_reference : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run m ρ)

/-- The call and its reference end with the same array. -/
theorem equal : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩)
    (Cert.Reference2Ideal.Value.run m' g')
  refine (Cert.Reference2Ideal.Read.val_main_v20_eq _ _ _ _ _ _).trans ?_
  obtain ⟨h0, h1, h2, h3, h4, h5⟩ := hagree c
  rw [h0, h1, h2, h3, h4, h5]
  refine Eq.trans ?_ (Cert.Kernel2Ideal.Ffn.final m c).symm
  funext j
  exact (congrArg _ (ix2_eta j).symm).trans (Cert.Reference2Ideal.Ffn.ref_at _ _ _ _ _ _ (j 0) (j 1))

end Cert.FfnProof
-- ==== Proof.ProjRef.lean ====
/- What the projection's reference computes, entry by entry. -/
module

public import proofs.«01_k».proof.Proof.Gen.Reference3Ideal.Read
public import Idealize.ShloMosaic.Lib.Pipeline.ValueKit

@[expose] public section

set_option maxRecDepth 16384

noncomputable section

namespace Cert.Reference3Ideal.Proj

open Cert.Reference3Ideal Cert.Reference3Ideal.Gen Cert.Reference3Ideal.Read
open Idealize.ShloMosaic Idealize.ShloMosaic.TcCoe Idealize.SL.Sem

variable (h : FVec Ideal S34816x1024 .f32) (m : FVec Ideal S4x16x8x1024 .f32) (g : FVec Ideal S1x1024 .f32)
  (w : FVec Ideal S1024x4224 .bf16) (wgt : FVec Ideal S16x1024 .bf16) (cw : FVec Ideal S8x1024 .f32)
  (cb post : FVec Ideal S1x1024 .f32)

/-- One entry of a row that is scaled to unit mean square and by its gain, then modulated by a scale and a shift. -/
def modded (x gain scale shift : Fin 1024 → EReal) (k : Fin 1024) : EReal :=
  x k * Ideal.rsqrt (Ideal.div (∑ l, x l * x l) (Ideal.ofBits FTy.f32 1149239296#32) + Ideal.ofBits FTy.f32 897988541#32)
    * gain k * (1 + scale k) + shift k

/-- The entry of the modulation table of a row: 8 for the context, the first 256 of each 4352 rows, else its sequence. -/
def entry (r : Fin 34816) : Fin 16 := ⟨if (r : ℕ) % 4352 < 256 then 8 else r / 4352, by split <;> omega⟩

/-- One entry of the modulated rows. -/
def actAt (r : Fin 34816) (k : Fin 1024) : EReal :=
  modded (fun l => h (ix2 r l)) (fun l => g (ix2 0 l)) (fun l => m (ix4 0 (entry r) 1 l)) (fun l => m (ix4 0 (entry r) 0 l)) k

/-- One entry of their product with the combined weight. -/
def projAt (r : Fin 34816) (d : Fin 4224) : EReal := ∑ k : Fin 1024, actAt h m g r k * w (ix2 k d)

/-- One entry of their product with the gates' weight, rows across. -/
def gateAt (d : Fin 16) (r : Fin 34816) : EReal := ∑ k : Fin 1024, actAt h m g r k * wgt (ix2 d k)

/-- The product of a number and its logistic. -/
def silu (y : EReal) : EReal := y * Ideal.logistic y

/-- The centred convolution of width 3 along one column `x`, of context and latent rows by themselves, at row `r`. -/
def convRow (x : Fin 34816 → EReal) (c0 c1 c2 b : EReal) (r : Fin 34816) : EReal :=
  (if hr : (r : ℕ) % 4352 = 0 ∨ (r : ℕ) % 4352 = 256 then 0 else x ⟨r - 1, by omega⟩) * c0 + x r * c1
    + (if hr : (r : ℕ) % 4352 = 255 ∨ (r : ℕ) % 4352 = 4351 then 0 else x ⟨r + 1, by omega⟩) * c2 + b

/-- One entry of the convolved columns, the last 1024 of the product. -/
def convAt (r : Fin 34816) (d : Fin 1024) : EReal :=
  silu (convRow (fun r => projAt h m g w r ⟨3200 + d, by omega⟩) (cw (ix2 0 d)) (cw (ix2 1 d)) (cw (ix2 2 d)) (cb (ix2 0 d)) r)
    * post (ix2 0 d)

theorem act_at (r : Fin 34816) (k : Fin 1024) : val_main_v33 (F := Ideal) h m g (ix2 r k) = actAt h m g r k := by
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]
  unfold actAt modded
  by_cases hr : (r : ℕ) % 4352 < 256
  · have e : entry r = 8 := Fin.ext (if_pos hr)
    simp only [hr, e, ↓reduceDIte]
  · have e : entry r = ⟨(r : ℕ) / 4352, by omega⟩ := Fin.ext (if_neg hr)
    simp only [hr, e, ↓reduceDIte]

theorem proj_at (r : Fin 34816) (d : Fin 4224) : val_main_v35 (F := Ideal) h m g w (ix2 r d) = projAt h m g w r d := by
  pointwise [val_main_v35, val_main_v34, projAt, act_at]

theorem gla_at (r : Fin 34816) (d : Fin 1664) :
    val_main_v94 (F := Ideal) h m g w (ix2 r d) = projAt h m g w r ⟨d, by omega⟩ := by
  pointwise [val_main_v94, proj_at]

theorem ssm_at (r : Fin 34816) (d : Fin 256) :
    val_main_v95 (F := Ideal) h m g w (ix2 r d) = projAt h m g w r ⟨1664 + d, by omega⟩ := by
  pointwise [val_main_v95, proj_at]

theorem mlstm_at (r : Fin 34816) (d : Fin 1280) :
    val_main_v96 (F := Ideal) h m g w (ix2 r d) = projAt h m g w r ⟨1920 + d, by omega⟩ := by
  pointwise [val_main_v96, proj_at]

theorem gate_at (d : Fin 16) (r : Fin 34816) :
    val_main_v100 (F := Ideal) h m g wgt (ix2 d r) = gateAt h m g wgt d r := by
  pointwise [val_main_v100, val_main_v99, val_main_v98, val_main_v97, gateAt, act_at]

/-- A tap of the convolution: kept where its row lies in the stream, zero beyond. -/
theorem tap {n : ℕ} (p : Fin n → EReal) {c c' : Prop} [Decidable c] [Decidable c'] (a : c → Fin n) (b : ¬c' → Fin n)
    (hc : c ↔ ¬c') (hab : ∀ h h', a h = b h') : (if h : c then p (a h) else 0) = if h : c' then 0 else p (b h) := by
  by_cases h : c
  · rw [dif_pos h, dif_neg (hc.1 h), hab h (hc.1 h)]
  · rw [dif_neg h, dif_pos (not_not.1 fun k => h (hc.2 k))]

theorem tap_mid {n : ℕ} (p : Fin n → EReal) {c : Prop} [Decidable c] (a : c → Fin n) (b : Fin n)
    (hc : c) (hab : ∀ h, a h = b) : (if h : c then p (a h) else 0) = p b := by
  rw [dif_pos hc, hab hc]

theorem conv_at (r : Fin 34816) (d : Fin 1024) :
    val_main_v93 (F := Ideal) h m g w cw cb post (ix2 r d) = convAt h m g w cw cb post r d := by
  obtain ⟨X, hX⟩ : ∃ X, convAt h m g w cw cb post r d = X := ⟨_, rfl⟩
  rw [hX]
  pointwise [val_main_v93, val_main_v92, val_main_v91, val_main_v90, val_main_v89, val_main_v88, val_main_v87, val_main_v86, val_main_v85, val_main_v84,
    val_main_v83, val_main_v82, val_main_v81, val_main_v80, val_main_v79, val_main_v78, val_main_v77, val_main_v76,
    val_main_v75, val_main_v74, val_main_v73, val_main_v72, val_main_v71, val_main_v70, val_main_v69, val_main_v68,
    val_main_v67, val_main_v66, val_main_v65, val_main_v64, val_main_v63, val_main_v62, val_main_v61, val_main_v60,
    val_main_v59, val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37, val_main_v36,
    val_main_call0_v0, val_main_c, val_main_call2_v0, val_main_c_3,
    val_main_call1_v0, val_main_call1_v1, val_main_call1_v2, val_main_call1_v3, val_main_call1_v4, val_main_call1_v5,
    val_main_call1_cst, val_main_call1_cst_0,
    val_main_call3_v0, val_main_call3_v1, val_main_call3_v2, val_main_call3_v3, val_main_call3_v4, val_main_call3_v5,
    val_main_call3_cst, val_main_call3_cst_0]
  simp only [proj_at]
  have z : FloatOps.sitofp (F := Ideal) FTy.f32 0#32 = (0 : EReal) := by simp [FloatOps.sitofp]
  have sl : ∀ y : EReal, y * Ideal.div 1 (1 + Ideal.exp (-y)) = silu y := fun _ => rfl
  simp only [z, sl]
  refine Eq.trans ?_ hX
  clear hX
  unfold convAt
  refine congrArg (fun y => y * post (ix2 0 d)) ?_
  by_cases hr : (r : ℕ) % 4352 < 256
  · rw [dif_pos hr]
    refine congrArg silu ?_
    unfold convRow
    have t0 := tap (fun i => projAt h m g w i ⟨3200 + d, by omega⟩) (c := (r : ℕ) / 4352 < 8 ∧ 1 ≤ (r : ℕ) % 4352 ∧ (r : ℕ) % 4352 - 1 < 256)
      (c' := (r : ℕ) % 4352 = 0 ∨ (r : ℕ) % 4352 = 256)
      (fun h => ⟨(r : ℕ) / 4352 * 4352 + ((r : ℕ) % 4352 - 1), by omega⟩) (fun h => ⟨r - 1, by omega⟩)
      (by omega) (fun _ _ => Fin.ext (by simp only; omega))
    have t1 := tap_mid (fun i => projAt h m g w i ⟨3200 + d, by omega⟩) (c := (r : ℕ) / 4352 < 8 ∧ (r : ℕ) % 4352 < 256)
      (fun h => r) r (by omega) (fun _ => rfl)
    have t2 := tap (fun i => projAt h m g w i ⟨3200 + d, by omega⟩) (c := (r : ℕ) / 4352 < 8 ∧ 1 ≤ 2 + (r : ℕ) % 4352 ∧ 2 + (r : ℕ) % 4352 - 1 < 256)
      (c' := (r : ℕ) % 4352 = 255 ∨ (r : ℕ) % 4352 = 4351)
      (fun h => ⟨(r : ℕ) / 4352 * 4352 + (2 + (r : ℕ) % 4352 - 1), by omega⟩) (fun h => ⟨r + 1, by omega⟩)
      (by omega) (fun _ _ => Fin.ext (by simp only; omega))
    exact congrArg (fun y => y + cb (ix2 0 d)) (congrArg₂ (fun y z => y + z) (congrArg₂ (fun y z => y + z)
      (congrArg (fun y => y * cw (ix2 0 d)) t0) (congrArg (fun y => y * cw (ix2 1 d)) t1))
      (congrArg (fun y => y * cw (ix2 2 d)) t2))
  · rw [dif_neg hr]
    refine congrArg silu ?_
    unfold convRow
    have t0 := tap (fun i => projAt h m g w i ⟨3200 + d, by omega⟩) (c := (r : ℕ) / 4352 < 8 ∧ 1 ≤ (r : ℕ) % 4352 - 256 ∧ (r : ℕ) % 4352 - 256 - 1 < 4096)
      (c' := (r : ℕ) % 4352 = 0 ∨ (r : ℕ) % 4352 = 256)
      (fun h => ⟨(r : ℕ) / 4352 * 4352 + (256 + ((r : ℕ) % 4352 - 256 - 1)), by omega⟩) (fun h => ⟨r - 1, by omega⟩)
      (by omega) (fun _ _ => Fin.ext (by simp only; omega))
    have t1 := tap_mid (fun i => projAt h m g w i ⟨3200 + d, by omega⟩) (c := (r : ℕ) / 4352 < 8 ∧ (r : ℕ) % 4352 - 256 < 4096)
      (fun h => ⟨(r : ℕ) / 4352 * 4352 + (256 + ((r : ℕ) % 4352 - 256)), by omega⟩) r (by omega)
      (fun _ => Fin.ext (by simp only; omega))
    have t2 := tap (fun i => projAt h m g w i ⟨3200 + d, by omega⟩) (c := (r : ℕ) / 4352 < 8 ∧ 1 ≤ 2 + ((r : ℕ) % 4352 - 256) ∧ 2 + ((r : ℕ) % 4352 - 256) - 1 < 4096)
      (c' := (r : ℕ) % 4352 = 255 ∨ (r : ℕ) % 4352 = 4351)
      (fun h => ⟨(r : ℕ) / 4352 * 4352 + (256 + (2 + ((r : ℕ) % 4352 - 256) - 1)), by omega⟩) (fun h => ⟨r + 1, by omega⟩)
      (by omega) (fun _ _ => Fin.ext (by simp only; omega))
    exact congrArg (fun y => y + cb (ix2 0 d)) (congrArg₂ (fun y z => y + z) (congrArg₂ (fun y z => y + z)
      (congrArg (fun y => y * cw (ix2 0 d)) t0) (congrArg (fun y => y * cw (ix2 1 d)) t1))
      (congrArg (fun y => y * cw (ix2 2 d)) t2))

end Cert.Reference3Ideal.Proj
-- ==== Proof.ProjBlock.lean ====
/- What one grid point of the projection leaves in its blocks. -/
module

public import proofs.«01_k».proof.Proof.Gen.Kernel3Ideal.Value
public import proofs.«01_k».proof.Proof.ProjRef
public import Idealize.ShloMosaic.Lib.Pipeline.ValueKit

@[expose] public section

set_option maxRecDepth 16384

noncomputable section

namespace Cert.Kernel3Ideal.Proj

open Cert.Kernel3Ideal Cert.Kernel3Ideal.Gen
open Cert.Reference3Ideal.Proj (modded entry actAt projAt gateAt silu convRow convAt)
open Idealize.ShloMosaic Idealize.ShloMosaic.TcCoe Idealize.SL.Sem
open Idealize.ShloMosaic.Pipeline (Dat)

theorem idx : ∀ t : Fin cfg0.N, (grid0.coords t 0).val = t.val ∧ win0_0.index t = ![t.val, 0]
    ∧ win0_1.index t = ![t.val * 64 - 1, 0] ∧ win0_2.index t = ![min (t.val * 64 + 64) 4351, 0]
    ∧ win0_3.index t = ![0, 0, 0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0]
    ∧ win0_13.index t = ![t.val, 0] ∧ win0_14.index t = ![0, t.val] :=
  (by decide +kernel : ∀ t : Fin grid0.N, _)

/-- The entry of the modulation table that the `q`-th half of point `t`'s rows takes. -/
theorem sel : ∀ t : Fin cfg0.N, ∀ q : Fin 2, k0_off1 (grid0.coords t) (BitVec.ofNat 32 q) =
    ![0, if (t.val * 512 + 256 * q.val) % 4352 < 256 then 8 else (t.val * 512 + 256 * q.val) / 4352, 0, 0] :=
  (by decide +kernel : ∀ t : Fin grid0.N, ∀ q : Fin 2, _)

theorem pay5_at (a : FVec Ideal S8x1024 .f32) (x : FVec Ideal S256x1024 .f32) (g : FVec Ideal S1x1024 .f32) (r : Fin 256) (k : Fin 1024) :
    k0_pay5 (F := Ideal) a x g (k0_pay4 x) (FloatOps.ofBits .f32 0x44800000#32) (ix2 r k)
      = modded (fun l => x (ix2 r l)) (fun l => g (ix2 0 l)) (fun l => a (ix2 1 l)) (fun l => a (ix2 0 l)) k := by
  pointwise [k0_pay5, k0_pay4, modded]

theorem pay6_at (a : FVec Ideal S8x1024 .f32) (x : FVec Ideal S256x1024 .f32) (g : FVec Ideal S1x1024 .f32) (r : Fin 256) (k : Fin 1024) :
    k0_pay6 (F := Ideal) a x g (ix2 r k)
      = modded (fun l => x (ix2 r l)) (fun l => g (ix2 0 l)) (fun l => a (ix2 1 l)) (fun l => a (ix2 0 l)) k := by
  pointwise [k0_pay6, modded]

theorem pay12_at (a x : FVec Ideal S8x1024 .f32) (g : FVec Ideal S1x1024 .f32) (r : Fin 8) (k : Fin 1024) :
    k0_pay12 (F := Ideal) a x g (ix2 r k)
      = modded (fun l => x (ix2 r l)) (fun l => g (ix2 0 l)) (fun l => a (ix2 1 l)) (fun l => a (ix2 0 l)) k := by
  pointwise [k0_pay12, modded]

theorem modded_congr {x x' g g' s s' b b' : Fin 1024 → EReal} (hx : ∀ l, x l = x' l) (hg : ∀ l, g l = g' l)
    (hs : ∀ l, s l = s' l) (hb : ∀ l, b l = b' l) (k : Fin 1024) : modded x g s b k = modded x' g' s' b' k := by
  rw [funext hx, funext hg, funext hs, funext hb]

theorem pay2_at (a : FVec Ideal S1x1x8x1024 .f32) (q : Fin 8) (k : Fin 1024) :
    k0_pay2 (F := Ideal) a (ix2 q k) = a (ix4 0 0 q k) := by
  pointwise [k0_pay2]

theorem pay3_at (a : FVec Ideal S1x1x8x1024 .f32) (q : Fin 8) (k : Fin 1024) :
    k0_pay3 (F := Ideal) a (ix2 q k) = a (ix4 0 0 q k) := by
  pointwise [k0_pay3]

/-- The rows of a point are those of its two halves. -/
theorem pay7_at (a b : FVec Ideal S8x1024 .f32) (x y : FVec Ideal S256x1024 .f32) (g : FVec Ideal S1x1024 .f32) (r : Fin 512)
    (k : Fin 1024) (A : EReal)
    (h1 : ∀ h : (r : ℕ) < 256, modded (fun l => x (ix2 ⟨r, h⟩ l)) (fun l => g (ix2 0 l)) (fun l => a (ix2 1 l)) (fun l => a (ix2 0 l)) k = A)
    (h2 : ∀ h : ¬(r : ℕ) < 256, modded (fun l => y (ix2 ⟨r - 256, by omega⟩ l)) (fun l => g (ix2 0 l)) (fun l => b (ix2 1 l))
      (fun l => b (ix2 0 l)) k = A) :
    k0_pay7 (F := Ideal) a b x g (k0_pay4 x) (FloatOps.ofBits .f32 0x44800000#32) y g (ix2 r k) = A := by
  pointwise [k0_pay7, pay5_at, pay6_at]
  by_cases h : (r : ℕ) < 256
  · exact (dif_pos h).trans ((pay5_at a x g _ k).trans (h1 h))
  · exact (dif_neg h).trans (h2 h)

/-- The rows with the eight before and the eight after them, times the last columns of the weight. -/
theorem pay13_at (v67 : FVec Ideal S8x1024 .f32) (v89 v111 : FVec Ideal S256x1024 .f32) (v147 v148 : FVec Ideal S8x1024 .f32)
    (v149 : FVec Ideal S1x1024 .f32) (w : FVec Ideal S1024x1024 .bf16) (i : Fin 528) (d : Fin 1024) (A : Fin 1024 → EReal)
    (h1 : ∀ h : (i : ℕ) < 8, ∀ k, v147 (ix2 ⟨i, h⟩ k) = A k)
    (h2 : ∀ h : ¬(i : ℕ) < 8, ∀ h' : (i : ℕ) - 8 < 256, ∀ k, v89 (ix2 ⟨i - 8, h'⟩ k) = A k)
    (h3 : ∀ h : ¬(i : ℕ) - 8 < 256, ∀ h' : (i : ℕ) - 8 - 256 < 256, ∀ k, v111 (ix2 ⟨i - 8 - 256, h'⟩ k) = A k)
    (h4 : ∀ h : ¬(i : ℕ) - 8 - 256 < 256, ∀ k, modded (fun l => v148 (ix2 ⟨i - 8 - 256 - 256, by omega⟩ l))
      (fun l => v149 (ix2 0 l)) (fun l => v67 (ix2 1 l)) (fun l => v67 (ix2 0 l)) k = A k) :
    k0_pay13 (F := Ideal) v67 v89 v111 v147 v148 v149 w (ix2 i d) = ∑ k : Fin 1024, A k * w (ix2 k d) := by
  obtain ⟨X, hX⟩ : ∃ X, ∑ k : Fin 1024, A k * w (ix2 k d) = X := ⟨_, rfl⟩
  rw [hX]
  pointwise [k0_pay13]
  refine Eq.trans (Finset.sum_congr rfl fun k _ => congrArg (fun y => y * w (ix2 k d)) ?_) hX
  by_cases a : (i : ℕ) < 8
  · exact (dif_pos a).trans (h1 a k)
  refine (dif_neg a).trans ?_
  by_cases b : (i : ℕ) - 8 < 256
  · exact (dif_pos b).trans (h2 a b k)
  refine (dif_neg b).trans ?_
  by_cases e : (i : ℕ) - 8 - 256 < 256
  · exact (dif_pos e).trans (h3 b e k)
  · exact (dif_neg e).trans (h4 e k)

theorem pay8_at (a b : FVec Ideal S8x1024 .f32) (x y : FVec Ideal S256x1024 .f32) (g g' : FVec Ideal S1x1024 .f32)
    (n : FVec Ideal S256x1 .f32) (f : Ideal .f32) (w : FVec Ideal S1024x1664 .bf16) (r : Fin 512) (d : Fin 1664) :
    k0_pay8 (F := Ideal) a b x g n f y g' w (ix2 r d) = ∑ k : Fin 1024, k0_pay7 (F := Ideal) a b x g n f y g' (ix2 r k) * w (ix2 k d) := by
  pointwise [k0_pay8]

theorem pay9_at (a : FVec Ideal S512x1024 .bf16) (w : FVec Ideal S1024x256 .bf16) (r : Fin 512) (d : Fin 256) :
    k0_pay9 (F := Ideal) a w (ix2 r d) = ∑ k : Fin 1024, a (ix2 r k) * w (ix2 k d) := by
  pointwise [k0_pay9]

theorem pay10_at (a : FVec Ideal S512x1024 .bf16) (w : FVec Ideal S1024x1280 .bf16) (r : Fin 512) (d : Fin 1280) :
    k0_pay10 (F := Ideal) a w (ix2 r d) = ∑ k : Fin 1024, a (ix2 r k) * w (ix2 k d) := by
  pointwise [k0_pay10]

theorem pay11_at (a : FVec Ideal S512x1024 .bf16) (w : FVec Ideal S16x1024 .bf16) (d : Fin 16) (r : Fin 512) :
    k0_pay11 (F := Ideal) a w (ix2 d r) = ∑ k : Fin 1024, w (ix2 d k) * a (ix2 r k) := by
  pointwise [k0_pay11]

theorem eq0 : ∀ r : Fin 512, IntOp.cmpi CmpIPredicate.eq (BitVec.ofNat 32 r) 0#32 = if (r : ℕ) = 0 then 1#1 else 0#1 := by
  decide +kernel

theorem eq255 : ∀ r : Fin 512, IntOp.cmpi CmpIPredicate.eq (BitVec.ofNat 32 r) 255#32 = if (r : ℕ) = 255 then 1#1 else 0#1 := by
  decide +kernel

theorem eq256 : ∀ r : Fin 512, IntOp.cmpi CmpIPredicate.eq (BitVec.ofNat 32 r) 256#32 = if (r : ℕ) = 256 then 1#1 else 0#1 := by
  decide +kernel

theorem eq511 : ∀ r : Fin 512, IntOp.cmpi CmpIPredicate.eq (BitVec.ofNat 32 r) 511#32 = if (r : ℕ) = 511 then 1#1 else 0#1 := by
  decide +kernel

theorem select_of {P : Prop} [Decidable P] {b : BitVec 1} (h : b = if P then 1#1 else 0#1) (x y : EReal) :
    Scalar.select b x y = if P then x else y := by
  subst h
  split <;> rfl

/-- A word that is a truth value, as a number. -/
theorem number_of {P : Prop} [Decidable P] {n : BitVec 32} (h : n = if P then 1#32 else 0#32) :
    ((n.toInt : ℝ) : EReal) = if P then 1 else 0 := by
  subst h
  split <;> simp

theorem pay18_at (w : BitVec 32) (f : Ideal .f32) (r : Fin 512) (d : Fin 1024) :
    k0_pay18 (F := Ideal) w (iota Kind.tc S512x1024 32 [0] iota_S512x1024_d0_w32) k0_pay14 f (ix2 r d)
      = (if (r : ℕ) = 256 then 1 - k0_pay15 (F := Ideal) w else if (r : ℕ) = 0 then 1 - f else 1 : EReal) := by
  rw [← select_of (eq256 r), ← select_of (eq0 r)]
  pointwise [k0_pay18, k0_pay14, k0_pay15]

theorem pay1_at (x : FVec Ideal S528x1024 .f32) (k16 k18 : FVec Ideal S512x1024 .f32) (f : Ideal .f32)
    (c0 c1 c2 b p : FVec Ideal S1x1024 .f32) (r : Fin 512) (d : Fin 1024) (u v z : EReal)
    (hu : x (ix2 ⟨(8 + r + 528 - 1) % 528, by omega⟩ d) * k18 (ix2 r d) = u) (hv : x (ix2 ⟨8 + r, by omega⟩ d) = v)
    (hz : x (ix2 ⟨(8 + r + 528 - 527) % 528, by omega⟩ d) * (if (r : ℕ) = 511 then 1 - f else k16 (ix2 r d)) = z) :
    k0_pay1 (F := Ideal) x (iota Kind.tc S512x1024 32 [0] iota_S512x1024_d0_w32) k16 f k18 k0_pay19 c0 c1 c2 b p (ix2 r d)
      = silu (u * c0 (ix2 0 d) + v * c1 (ix2 0 d) + z * c2 (ix2 0 d) + b (ix2 0 d)) * p (ix2 0 d) := by
  rw [← select_of (eq511 r)] at hz
  rw [mul_comm u, mul_comm v, mul_comm z, ← hu, ← hv, ← hz]
  pointwise [k0_pay1, k0_pay19, silu]

/-- A point's first row and those after it lie among the array's rows. -/
theorem row_lt (t : Fin cfg0.N) {r : ℕ} (hr : r < 512) : (t : ℕ) * 512 + r < 34816 := by
  have : (t : ℕ) < 68 := t.isLt
  omega

/-- Row `r` of point `t`. -/
def rowOf (t : Fin cfg0.N) (r : Fin 512) : Fin 34816 := ⟨t * 512 + r, row_lt t r.isLt⟩

/-- The product's columns of each scan, by themselves. -/
def glaAt (h : FVec Ideal S34816x1024 .f32) (m : FVec Ideal S4x16x8x1024 .f32) (g : FVec Ideal S1x1024 .f32)
    (w : FVec Ideal S1024x4224 .bf16) (r : Fin 34816) (d : Fin 1664) : EReal := projAt h m g w r ⟨d, by omega⟩

def ssmAt (h : FVec Ideal S34816x1024 .f32) (m : FVec Ideal S4x16x8x1024 .f32) (g : FVec Ideal S1x1024 .f32)
    (w : FVec Ideal S1024x4224 .bf16) (r : Fin 34816) (d : Fin 256) : EReal := projAt h m g w r ⟨1664 + d, by omega⟩

def mlstmAt (h : FVec Ideal S34816x1024 .f32) (m : FVec Ideal S4x16x8x1024 .f32) (g : FVec Ideal S1x1024 .f32)
    (w : FVec Ideal S1024x4224 .bf16) (r : Fin 34816) (d : Fin 1280) : EReal := projAt h m g w r ⟨1920 + d, by omega⟩

variable (m : (ℓ : Loc nD τ sig) → Buf (Elt Ideal) ℓ) (c : Dev nD) (t : Fin cfg0.N)

theorem rows0 (r : Fin 256) (k : Fin 1024) :
    View.ld (iblk m c 0 t) (Rect.unit ![0, 0] ![256, 1024] inb_S512x1024_S256x1024_0_0) (ix2 r k)
      = m ((c : Thread nD τ).loc main_arg0) (ix2 (rowOf t ⟨r, by omega⟩) k) := by
  unfold rowOf
  pointwise
  blk_point [iblk, V, idx t]

theorem rows1 (r : Fin 256) (k : Fin 1024) :
    View.ld (iblk m c 0 t) (Rect.unit ![256, 0] ![256, 1024] inb_S512x1024_S256x1024_256_0) (ix2 r k)
      = m ((c : Thread nD τ).loc main_arg0) (ix2 (rowOf t ⟨256 + r, by omega⟩) k) := by
  unfold rowOf
  pointwise
  blk_point [iblk, V, idx t]

theorem mods0 (q : Fin 8) (k : Fin 1024) :
    View.ld (iblk m c 3 t) (Rect.unit (k0_off1 (grid0.coords t) 0#32) ![1, 1, 8, 1024] (k0_off1_inb (grid0.coords t) 0)) (ix4 0 0 q k)
      = m ((c : Thread nD τ).loc main_arg1) (ix4 0 (entry (rowOf t 0)) q k) := by
  have e : k0_off1 (grid0.coords t) 0#32 = _ := sel t 0
  unfold rowOf entry
  pointwise
  blk_point [iblk, V, idx t]
  all_goals simp [e]

theorem mods1 (q : Fin 8) (k : Fin 1024) :
    View.ld (iblk m c 3 t) (Rect.unit (k0_off1 (grid0.coords t) 1#32) ![1, 1, 8, 1024] (k0_off1_inb (grid0.coords t) 1)) (ix4 0 0 q k)
      = m ((c : Thread nD τ).loc main_arg1) (ix4 0 (entry (rowOf t 256)) q k) := by
  have e : k0_off1 (grid0.coords t) 1#32 = _ := sel t 1
  unfold rowOf entry
  pointwise
  blk_point [iblk, V, idx t]
  all_goals simp [e]

theorem prev_rows (r : Fin 8) (k : Fin 1024) (R : Fin 34816) (hR : (t : ℕ) * 512 + r = R + 8) :
    iblk m c 1 t (ix2 r k) = m ((c : Thread nD τ).loc main_arg0) (ix2 R k) := by
  blk_point [iblk, V, idx t]

theorem next_rows (r : Fin 8) (k : Fin 1024) (R : Fin 34816) (hR : (t : ℕ) * 512 + 512 + r = R) :
    iblk m c 2 t (ix2 r k) = m ((c : Thread nD τ).loc main_arg0) (ix2 R k) := by
  blk_point [iblk, V, idx t]

theorem gain_at (k : Fin 1024) : iblk m c 4 t (ix2 0 k) = m ((c : Thread nD τ).loc main_arg2) (ix2 0 k) := by
  blk_point [iblk, V, idx t]

theorem bias_at (k : Fin 1024) : iblk m c 8 t (ix2 0 k) = m ((c : Thread nD τ).loc main_arg6) (ix2 0 k) := by
  blk_point [iblk, V, idx t]

theorem post_at (k : Fin 1024) : iblk m c 9 t (ix2 0 k) = m ((c : Thread nD τ).loc main_arg7) (ix2 0 k) := by
  blk_point [iblk, V, idx t]

theorem gates_at (d : Fin 16) (k : Fin 1024) : iblk m c 6 t (ix2 d k) = m ((c : Thread nD τ).loc main_arg4) (ix2 d k) := by
  blk_point [iblk, V, idx t]

theorem tap0_at (k : Fin 1024) : View.ld (iblk m c 7 t) (Rect.unit ![0, 0] ![1, 1024] inb_S8x1024_S1x1024_0_0) (ix2 0 k)
    = m ((c : Thread nD τ).loc main_arg5) (ix2 0 k) := by
  pointwise
  blk_point [iblk, V, idx t]

theorem tap1_at (k : Fin 1024) : View.ld (iblk m c 7 t) (Rect.unit ![1, 0] ![1, 1024] inb_S8x1024_S1x1024_1_0) (ix2 0 k)
    = m ((c : Thread nD τ).loc main_arg5) (ix2 1 k) := by
  pointwise
  blk_point [iblk, V, idx t]

theorem tap2_at (k : Fin 1024) : View.ld (iblk m c 7 t) (Rect.unit ![2, 0] ![1, 1024] inb_S8x1024_S1x1024_2_0) (ix2 0 k)
    = m ((c : Thread nD τ).loc main_arg5) (ix2 2 k) := by
  pointwise
  blk_point [iblk, V, idx t]

theorem w0_at (k : Fin 1024) (d : Fin 1664) :
    View.ld (iblk m c 5 t) (Rect.unit ![0, 0] ![1024, 1664] inb_S1024x4224_S1024x1664_0_0) (ix2 k d)
      = m ((c : Thread nD τ).loc main_arg3) (ix2 k ⟨d, by omega⟩) := by
  pointwise
  blk_point [iblk, V, idx t]

theorem w1_at (k : Fin 1024) (d : Fin 256) :
    View.ld (iblk m c 5 t) (Rect.unit ![0, 1664] ![1024, 256] inb_S1024x4224_S1024x256_0_1664) (ix2 k d)
      = m ((c : Thread nD τ).loc main_arg3) (ix2 k ⟨1664 + d, by omega⟩) := by
  pointwise
  blk_point [iblk, V, idx t]

theorem w2_at (k : Fin 1024) (d : Fin 1280) :
    View.ld (iblk m c 5 t) (Rect.unit ![0, 1920] ![1024, 1280] inb_S1024x4224_S1024x1280_0_1920) (ix2 k d)
      = m ((c : Thread nD τ).loc main_arg3) (ix2 k ⟨1920 + d, by omega⟩) := by
  pointwise
  blk_point [iblk, V, idx t]

theorem w3_at (k : Fin 1024) (d : Fin 1024) :
    View.ld (iblk m c 5 t) (Rect.unit ![0, 3200] ![1024, 1024] inb_S1024x4224_S1024x1024_0_3200) (ix2 k d)
      = m ((c : Thread nD τ).loc main_arg3) (ix2 k ⟨3200 + d, by omega⟩) := by
  pointwise
  blk_point [iblk, V, idx t]

theorem entry0 (R : Fin 34816) (h : (t : ℕ) * 512 ≤ R) (h' : (R : ℕ) < t * 512 + 256) : entry (rowOf t 0) = entry R := by
  refine Fin.ext ?_
  unfold entry rowOf
  simp only [Fin.val_zero]
  split <;> split <;> omega

theorem entry1 (R : Fin 34816) (h : (t : ℕ) * 512 + 256 ≤ R) (h' : (R : ℕ) < t * 512 + 512) : entry (rowOf t 256) = entry R := by
  refine Fin.ext ?_
  unfold entry rowOf
  simp only [show ((256 : Fin 512) : ℕ) = 256 from rfl]
  split <;> split <;> omega

/-- Whether the convolution's first and last taps fall outside the stream, segment by segment. -/
theorem first0 : k0_pay15 (F := Ideal) (Scalar.addi (Scalar.muli (BitVec.ofNat 32 (grid0.coords t 0)) 2#32) 0#32)
    = (if (t * 512 : ℕ) % 4352 = 0 ∨ (t * 512 : ℕ) % 4352 = 256 then 1 else 0 : EReal) := by
  unfold k0_pay15
  refine number_of ?_
  revert t
  change ∀ t : Fin grid0.N, _
  decide +kernel

theorem first1 : k0_pay15 (F := Ideal) (Scalar.addi (Scalar.muli (BitVec.ofNat 32 (grid0.coords t 0)) 2#32) 1#32)
    = (if (t * 512 + 256 : ℕ) % 4352 = 0 ∨ (t * 512 + 256 : ℕ) % 4352 = 256 then 1 else 0 : EReal) := by
  unfold k0_pay15
  refine number_of ?_
  revert t
  change ∀ t : Fin grid0.N, _
  decide +kernel

theorem last1 : k0_pay17 (F := Ideal) (Scalar.addi (Scalar.muli (BitVec.ofNat 32 (grid0.coords t 0)) 2#32) 1#32)
    = (if (t * 512 + 511 : ℕ) % 4352 = 255 ∨ (t * 512 + 511 : ℕ) % 4352 = 4351 then 1 else 0 : EReal) := by
  unfold k0_pay17
  refine number_of ?_
  revert t
  change ∀ t : Fin grid0.N, _
  decide +kernel

theorem mod0 (R : Fin 34816) (h : entry (rowOf t 0) = entry R) (q : Fin 8) (k : Fin 1024) :
    k0_pay2 (F := Ideal) (View.ld (iblk m c 3 t) (Rect.unit (k0_off1 (grid0.coords t) 0#32) ![1, 1, 8, 1024] (k0_off1_inb (grid0.coords t) 0))) (ix2 q k)
      = m ((c : Thread nD τ).loc main_arg1) (ix4 0 (entry R) q k) := by
  rw [pay2_at, mods0, h]

theorem mod1 (R : Fin 34816) (h : entry (rowOf t 256) = entry R) (q : Fin 8) (k : Fin 1024) :
    k0_pay3 (F := Ideal) (View.ld (iblk m c 3 t) (Rect.unit (k0_off1 (grid0.coords t) 1#32) ![1, 1, 8, 1024] (k0_off1_inb (grid0.coords t) 1))) (ix2 q k)
      = m ((c : Thread nD τ).loc main_arg1) (ix4 0 (entry R) q k) := by
  rw [pay3_at, mods1, h]

/-- A point's modulated rows. -/
def act : FVec Ideal S512x1024 .bf16 :=
  k0_pay7 (F := Ideal) (k0_pay2 (View.ld (iblk m c 3 t) (Rect.unit (k0_off1 (grid0.coords t) 0#32) ![1, 1, 8, 1024] (k0_off1_inb (grid0.coords t) 0))))
    (k0_pay3 (View.ld (iblk m c 3 t) (Rect.unit (k0_off1 (grid0.coords t) 1#32) ![1, 1, 8, 1024] (k0_off1_inb (grid0.coords t) 1))))
    (View.ld (iblk m c 0 t) (Rect.unit ![0, 0] ![256, 1024] inb_S512x1024_S256x1024_0_0)) (iblk m c 4 t)
    (k0_pay4 (View.ld (iblk m c 0 t) (Rect.unit ![0, 0] ![256, 1024] inb_S512x1024_S256x1024_0_0))) (FloatOps.ofBits FTy.f32 1149239296#32)
    (View.ld (iblk m c 0 t) (Rect.unit ![256, 0] ![256, 1024] inb_S512x1024_S256x1024_256_0)) (iblk m c 4 t)

theorem act_at (r : Fin 512) (k : Fin 1024) : act m c t (ix2 r k)
    = actAt (m ((c : Thread nD τ).loc main_arg0)) (m ((c : Thread nD τ).loc main_arg1)) (m ((c : Thread nD τ).loc main_arg2)) (rowOf t r) k := by
  unfold act
  refine pay7_at _ _ _ _ _ _ _ _ (fun h => ?_) (fun h => ?_)
  · have e : entry (rowOf t 0) = entry (rowOf t r) := entry0 t _ (by unfold rowOf; simp only; omega) (by unfold rowOf; simp only; omega)
    exact modded_congr (fun l => rows0 m c t _ l) (fun l => gain_at m c t l) (fun l => mod0 m c t _ e 1 l) (fun l => mod0 m c t _ e 0 l) k
  · have e : entry (rowOf t 256) = entry (rowOf t r) := entry1 t _ (by unfold rowOf; simp only; omega) (by unfold rowOf; simp only; omega)
    have f : (⟨256 + ((r : ℕ) - 256), by omega⟩ : Fin 512) = r := Fin.ext (by simp only; omega)
    refine modded_congr (fun l => ?_) (fun l => gain_at m c t l) (fun l => mod1 m c t _ e 1 l) (fun l => mod1 m c t _ e 0 l) k
    exact (rows1 m c t _ l).trans (congrArg (fun i => m ((c : Thread nD τ).loc main_arg0) (ix2 (rowOf t i) l)) f)

/-- The last columns of the product at a point's rows and at the eight before and the eight after them. -/
def ext : FVec Ideal S528x1024 .f32 :=
  k0_pay13 (F := Ideal) (k0_pay3 (View.ld (iblk m c 3 t) (Rect.unit (k0_off1 (grid0.coords t) 1#32) ![1, 1, 8, 1024] (k0_off1_inb (grid0.coords t) 1))))
    (k0_pay5 (k0_pay2 (View.ld (iblk m c 3 t) (Rect.unit (k0_off1 (grid0.coords t) 0#32) ![1, 1, 8, 1024] (k0_off1_inb (grid0.coords t) 0))))
      (View.ld (iblk m c 0 t) (Rect.unit ![0, 0] ![256, 1024] inb_S512x1024_S256x1024_0_0)) (iblk m c 4 t)
      (k0_pay4 (View.ld (iblk m c 0 t) (Rect.unit ![0, 0] ![256, 1024] inb_S512x1024_S256x1024_0_0))) (FloatOps.ofBits FTy.f32 1149239296#32))
    (k0_pay6 (k0_pay3 (View.ld (iblk m c 3 t) (Rect.unit (k0_off1 (grid0.coords t) 1#32) ![1, 1, 8, 1024] (k0_off1_inb (grid0.coords t) 1))))
      (View.ld (iblk m c 0 t) (Rect.unit ![256, 0] ![256, 1024] inb_S512x1024_S256x1024_256_0)) (iblk m c 4 t))
    (k0_pay12 (k0_pay2 (View.ld (iblk m c 3 t) (Rect.unit (k0_off1 (grid0.coords t) 0#32) ![1, 1, 8, 1024] (k0_off1_inb (grid0.coords t) 0))))
      (iblk m c 1 t) (iblk m c 4 t))
    (iblk m c 2 t) (iblk m c 4 t) (View.ld (iblk m c 5 t) (Rect.unit ![0, 3200] ![1024, 1024] inb_S1024x4224_S1024x1024_0_3200))

theorem ext_at (i : Fin 528) (d : Fin 1024) (R : Fin 34816) (hR : (t : ℕ) * 512 + i = R + 8)
    (e0 : (i : ℕ) < 264 → entry (rowOf t 0) = entry R) (e1 : ¬(i : ℕ) < 264 → entry (rowOf t 256) = entry R) :
    ext m c t (ix2 i d) = projAt (m ((c : Thread nD τ).loc main_arg0)) (m ((c : Thread nD τ).loc main_arg1)) (m ((c : Thread nD τ).loc main_arg2))
      (m ((c : Thread nD τ).loc main_arg3)) R ⟨3200 + d, by omega⟩ := by
  unfold ext
  refine (pay13_at _ _ _ _ _ _ _ i d (fun k => actAt (m ((c : Thread nD τ).loc main_arg0)) (m ((c : Thread nD τ).loc main_arg1)) (m ((c : Thread nD τ).loc main_arg2)) R k)
    (fun h k => ?_) (fun h h' k => ?_) (fun h h' k => ?_) (fun h k => ?_)).trans
    (Finset.sum_congr rfl fun k _ => congrArg (fun y => _ * y) (w3_at m c t k d))
  · exact (pay12_at _ _ _ _ _).trans (modded_congr (fun l => prev_rows m c t _ l R (by simp only; omega)) (fun l => gain_at m c t l)
      (fun l => mod0 m c t R (e0 (by omega)) 1 l) (fun l => mod0 m c t R (e0 (by omega)) 0 l) k)
  · have f : rowOf t ⟨(i : ℕ) - 8, by omega⟩ = R := Fin.ext (by unfold rowOf; simp only; omega)
    exact (pay5_at _ _ _ _ _).trans (modded_congr
      (fun l => (rows0 m c t _ l).trans (congrArg (fun i => m ((c : Thread nD τ).loc main_arg0) (ix2 i l)) f)) (fun l => gain_at m c t l)
      (fun l => mod0 m c t R (e0 (by omega)) 1 l) (fun l => mod0 m c t R (e0 (by omega)) 0 l) k)
  · have f : rowOf t ⟨256 + ((i : ℕ) - 8 - 256), by omega⟩ = R := Fin.ext (by unfold rowOf; simp only; omega)
    exact (pay6_at _ _ _ _ _).trans (modded_congr
      (fun l => (rows1 m c t _ l).trans (congrArg (fun i => m ((c : Thread nD τ).loc main_arg0) (ix2 i l)) f)) (fun l => gain_at m c t l)
      (fun l => mod1 m c t R (e1 (by omega)) 1 l) (fun l => mod1 m c t R (e1 (by omega)) 0 l) k)
  · exact modded_congr (fun l => next_rows m c t _ l R (by simp only; omega)) (fun l => gain_at m c t l)
      (fun l => mod1 m c t R (e1 (by omega)) 1 l) (fun l => mod1 m c t R (e1 (by omega)) 0 l) k

theorem pay16_at (w : BitVec 32) (r : Fin 512) (d : Fin 1024) {P : Prop} [Decidable P]
    (h : Scalar.extui (Scalar.ori (Scalar.cmpi CmpIPredicate.eq w 0#32) (Scalar.cmpi CmpIPredicate.eq w 16#32)) = if P then 1#32 else 0#32) :
    k0_pay16 (F := Ideal) (iota Kind.tc S512x1024 32 [0] iota_S512x1024_d0_w32) k0_pay14 w (ix2 r d)
      = (if (r : ℕ) = 255 then 1 - (if P then 1 else 0) else 1 : EReal) := by
  rw [← select_of (eq255 r), ← number_of h]
  pointwise [k0_pay16, k0_pay14]

/-- The segment word of a point's first half. -/
def word : BitVec 32 := (Scalar.select
          (Scalar.andi
            (Scalar.xori
              (Scalar.cmpi CmpIPredicate.slt
                (Scalar.remsi (Scalar.addi (Scalar.muli (BitVec.ofNat 32 (grid0.coords t 0)) 2#32) 0#32) 17#32) 0#32)
              0#1)
            (Scalar.cmpi CmpIPredicate.ne
              (Scalar.remsi (Scalar.addi (Scalar.muli (BitVec.ofNat 32 (grid0.coords t 0)) 2#32) 0#32) 17#32) 0#32))
          (Scalar.addi (Scalar.remsi (Scalar.addi (Scalar.muli (BitVec.ofNat 32 (grid0.coords t 0)) 2#32) 0#32) 17#32) 17#32)
          (Scalar.remsi (Scalar.addi (Scalar.muli (BitVec.ofNat 32 (grid0.coords t 0)) 2#32) 0#32) 17#32))

theorem last0 : Scalar.extui (Scalar.ori (Scalar.cmpi CmpIPredicate.eq (word t) 0#32) (Scalar.cmpi CmpIPredicate.eq (word t) 16#32))
    = if (t * 512 + 255 : ℕ) % 4352 = 255 ∨ (t * 512 + 255 : ℕ) % 4352 = 4351 then 1#32 else 0#32 := by
  revert t
  change ∀ t : Fin grid0.N, _
  decide +kernel

theorem entry_eq (a b : Fin 34816) (h : (a : ℕ) % 4352 < 256 ↔ (b : ℕ) % 4352 < 256) (h' : (a : ℕ) / 4352 = b / 4352) :
    entry a = entry b := by
  refine Fin.ext ?_
  unfold entry
  simp only
  split <;> split <;> omega

/-- A tap is dropped where the factor for its place is zero. -/
theorem keep_of {P Q : Prop} [Decidable P] [Decidable Q] (h : P ↔ Q) : (1 - (if P then 1 else 0) : EReal) = if Q then 0 else 1 := by
  by_cases p : P
  · rw [if_pos p, if_pos (h.1 p), ← EReal.coe_one, ← EReal.coe_sub, sub_self, EReal.coe_zero]
  · rw [if_neg p, if_neg fun q => p (h.2 q), sub_zero]

theorem prev_keep (r : Fin 512) (d : Fin 1024) (R : Fin 34816) (hR : (R : ℕ) = t * 512 + r) :
    k0_pay18 (F := Ideal) (Scalar.addi (Scalar.muli (BitVec.ofNat 32 (grid0.coords t 0)) 2#32) 1#32)
      (iota Kind.tc S512x1024 32 [0] iota_S512x1024_d0_w32) k0_pay14 (k0_pay15 (Scalar.addi (Scalar.muli (BitVec.ofNat 32 (grid0.coords t 0)) 2#32) 0#32)) (ix2 r d)
      = (if (R : ℕ) % 4352 = 0 ∨ (R : ℕ) % 4352 = 256 then 0 else 1 : EReal) := by
  refine (pay18_at _ _ r d).trans ?_
  by_cases a : (r : ℕ) = 256
  · exact (if_pos a).trans ((congrArg (fun y : EReal => 1 - y) (first1 t)).trans (keep_of (by omega)))
  refine (if_neg a).trans ?_
  by_cases b : (r : ℕ) = 0
  · exact (if_pos b).trans ((congrArg (fun y : EReal => 1 - y) (first0 t)).trans (keep_of (by omega)))
  · exact (if_neg b).trans (if_neg (by omega)).symm

theorem next_keep (r : Fin 512) (d : Fin 1024) (R : Fin 34816) (hR : (R : ℕ) = t * 512 + r) :
    (if (r : ℕ) = 511 then 1 - k0_pay17 (F := Ideal) (Scalar.addi (Scalar.muli (BitVec.ofNat 32 (grid0.coords t 0)) 2#32) 1#32)
      else k0_pay16 (F := Ideal) (iota Kind.tc S512x1024 32 [0] iota_S512x1024_d0_w32) k0_pay14 (word t) (ix2 r d) : EReal)
      = if (R : ℕ) % 4352 = 255 ∨ (R : ℕ) % 4352 = 4351 then 0 else 1 := by
  by_cases a : (r : ℕ) = 511
  · exact (if_pos a).trans ((congrArg (fun y : EReal => 1 - y) (last1 t)).trans (keep_of (by omega)))
  refine (if_neg a).trans ((pay16_at (word t) r d (last0 t)).trans ?_)
  by_cases b : (r : ℕ) = 255
  · exact (if_pos b).trans (keep_of (by omega))
  · exact (if_neg b).trans (if_neg (by omega)).symm

theorem prev_tap (r : Fin 512) (d : Fin 1024) (R : Fin 34816) (hR : (R : ℕ) = t * 512 + r) (k : EReal)
    (hk : k = if (R : ℕ) % 4352 = 0 ∨ (R : ℕ) % 4352 = 256 then 0 else 1) :
    ext m c t (ix2 ⟨(8 + r + 528 - 1) % 528, by omega⟩ d) * k
      = if hr : (R : ℕ) % 4352 = 0 ∨ (R : ℕ) % 4352 = 256 then 0
        else projAt (m ((c : Thread nD τ).loc main_arg0)) (m ((c : Thread nD τ).loc main_arg1)) (m ((c : Thread nD τ).loc main_arg2)) (m ((c : Thread nD τ).loc main_arg3)) ⟨R - 1, by omega⟩ ⟨3200 + d, by omega⟩ := by
  by_cases b : (R : ℕ) % 4352 = 0 ∨ (R : ℕ) % 4352 = 256
  · refine Eq.trans ?_ (dif_pos b).symm
    exact (congrArg (fun y => _ * y) (hk.trans (if_pos b))).trans (mul_zero _)
  · refine Eq.trans ?_ (dif_neg b).symm
    refine (congrArg (fun y => _ * y) (hk.trans (if_neg b))).trans ((mul_one _).trans ?_)
    refine ext_at m c t _ d _ (by simp only; omega) (fun h => entry_eq _ _ ?_ ?_) (fun h => entry_eq _ _ ?_ ?_)
    all_goals
      simp only [rowOf, Fin.val_zero, show ((256 : Fin 512) : ℕ) = 256 from rfl] at h ⊢
      omega

theorem next_tap (r : Fin 512) (d : Fin 1024) (R : Fin 34816) (hR : (R : ℕ) = t * 512 + r) (k : EReal)
    (hk : k = if (R : ℕ) % 4352 = 255 ∨ (R : ℕ) % 4352 = 4351 then 0 else 1) :
    ext m c t (ix2 ⟨(8 + r + 528 - 527) % 528, by omega⟩ d) * k
      = if hr : (R : ℕ) % 4352 = 255 ∨ (R : ℕ) % 4352 = 4351 then 0
        else projAt (m ((c : Thread nD τ).loc main_arg0)) (m ((c : Thread nD τ).loc main_arg1)) (m ((c : Thread nD τ).loc main_arg2)) (m ((c : Thread nD τ).loc main_arg3)) ⟨R + 1, by omega⟩ ⟨3200 + d, by omega⟩ := by
  by_cases b : (R : ℕ) % 4352 = 255 ∨ (R : ℕ) % 4352 = 4351
  · refine Eq.trans ?_ (dif_pos b).symm
    exact (congrArg (fun y => _ * y) (hk.trans (if_pos b))).trans (mul_zero _)
  · refine Eq.trans ?_ (dif_neg b).symm
    refine (congrArg (fun y => _ * y) (hk.trans (if_neg b))).trans ((mul_one _).trans ?_)
    refine ext_at m c t _ d _ (by simp only; omega) (fun h => entry_eq _ _ ?_ ?_) (fun h => entry_eq _ _ ?_ ?_)
    all_goals
      simp only [rowOf, Fin.val_zero, show ((256 : Fin 512) : ℕ) = 256 from rfl] at h ⊢
      omega

theorem own_tap (r : Fin 512) (d : Fin 1024) (R : Fin 34816) (hR : (R : ℕ) = t * 512 + r) :
    ext m c t (ix2 ⟨8 + r, by omega⟩ d) = projAt (m ((c : Thread nD τ).loc main_arg0)) (m ((c : Thread nD τ).loc main_arg1)) (m ((c : Thread nD τ).loc main_arg2)) (m ((c : Thread nD τ).loc main_arg3)) R ⟨3200 + d, by omega⟩ := by
  refine ext_at m c t _ d _ (by simp only; omega) (fun h => entry_eq _ _ ?_ ?_) (fun h => entry_eq _ _ ?_ ?_)
  all_goals
    simp only [rowOf, Fin.val_zero, show ((256 : Fin 512) : ℕ) = 256 from rfl] at h ⊢
    omega

theorem conv_block (r : Fin 512) (d : Fin 1024) :
    k0_pay1 (F := Ideal) (ext m c t) (iota Kind.tc S512x1024 32 [0] iota_S512x1024_d0_w32)
      (k0_pay16 (iota Kind.tc S512x1024 32 [0] iota_S512x1024_d0_w32) k0_pay14 (word t))
      (k0_pay17 (Scalar.addi (Scalar.muli (BitVec.ofNat 32 (grid0.coords t 0)) 2#32) 1#32))
      (k0_pay18 (Scalar.addi (Scalar.muli (BitVec.ofNat 32 (grid0.coords t 0)) 2#32) 1#32)
        (iota Kind.tc S512x1024 32 [0] iota_S512x1024_d0_w32) k0_pay14
        (k0_pay15 (Scalar.addi (Scalar.muli (BitVec.ofNat 32 (grid0.coords t 0)) 2#32) 0#32)))
      k0_pay19 (View.ld (iblk m c 7 t) (Rect.unit ![0, 0] ![1, 1024] inb_S8x1024_S1x1024_0_0))
      (View.ld (iblk m c 7 t) (Rect.unit ![1, 0] ![1, 1024] inb_S8x1024_S1x1024_1_0))
      (View.ld (iblk m c 7 t) (Rect.unit ![2, 0] ![1, 1024] inb_S8x1024_S1x1024_2_0)) (iblk m c 8 t) (iblk m c 9 t) (ix2 r d)
      = convAt (m ((c : Thread nD τ).loc main_arg0)) (m ((c : Thread nD τ).loc main_arg1)) (m ((c : Thread nD τ).loc main_arg2)) (m ((c : Thread nD τ).loc main_arg3))
        (m ((c : Thread nD τ).loc main_arg5)) (m ((c : Thread nD τ).loc main_arg6)) (m ((c : Thread nD τ).loc main_arg7)) (rowOf t r) d := by
  refine (pay1_at _ _ _ _ _ _ _ _ _ r d _ _ _ (prev_tap m c t r d (rowOf t r) rfl _ (prev_keep t r d _ rfl))
    (own_tap m c t r d (rowOf t r) rfl) (next_tap m c t r d (rowOf t r) rfl _ (next_keep t r d _ rfl))).trans ?_
  unfold convAt convRow
  exact congrArg₂ (fun y z => silu y * z) (congrArg₂ (fun y z => y + z) (congrArg₂ (fun y z => y + z) (congrArg₂ (fun y z => y + z)
    (congrArg (fun y => _ * y) (tap0_at m c t d)) (congrArg (fun y => _ * y) (tap1_at m c t d)))
    (congrArg (fun y => _ * y) (tap2_at m c t d))) (bias_at m c t d)) (post_at m c t d)

theorem gla_block (r : Fin 512) (d : Fin 1664) : (∑ k : Fin 1024, act m c t (ix2 r k) *
    (View.ld (iblk m c 5 t) (Rect.unit ![0, 0] ![1024, 1664] inb_S1024x4224_S1024x1664_0_0) : FVec Ideal S1024x1664 .bf16) (ix2 k d) : EReal)
    = glaAt (m ((c : Thread nD τ).loc main_arg0)) (m ((c : Thread nD τ).loc main_arg1)) (m ((c : Thread nD τ).loc main_arg2)) (m ((c : Thread nD τ).loc main_arg3)) (rowOf t r) d :=
  Finset.sum_congr rfl fun k _ => congrArg₂ (fun y z => y * z) (act_at m c t r k) (w0_at m c t k d)

theorem ssm_block (r : Fin 512) (d : Fin 256) : (∑ k : Fin 1024, act m c t (ix2 r k) *
    (View.ld (iblk m c 5 t) (Rect.unit ![0, 1664] ![1024, 256] inb_S1024x4224_S1024x256_0_1664) : FVec Ideal S1024x256 .bf16) (ix2 k d) : EReal)
    = ssmAt (m ((c : Thread nD τ).loc main_arg0)) (m ((c : Thread nD τ).loc main_arg1)) (m ((c : Thread nD τ).loc main_arg2)) (m ((c : Thread nD τ).loc main_arg3)) (rowOf t r) d :=
  Finset.sum_congr rfl fun k _ => congrArg₂ (fun y z => y * z) (act_at m c t r k) (w1_at m c t k d)

theorem mlstm_block (r : Fin 512) (d : Fin 1280) : (∑ k : Fin 1024, act m c t (ix2 r k) *
    (View.ld (iblk m c 5 t) (Rect.unit ![0, 1920] ![1024, 1280] inb_S1024x4224_S1024x1280_0_1920) : FVec Ideal S1024x1280 .bf16) (ix2 k d) : EReal)
    = mlstmAt (m ((c : Thread nD τ).loc main_arg0)) (m ((c : Thread nD τ).loc main_arg1)) (m ((c : Thread nD τ).loc main_arg2)) (m ((c : Thread nD τ).loc main_arg3)) (rowOf t r) d :=
  Finset.sum_congr rfl fun k _ => congrArg₂ (fun y z => y * z) (act_at m c t r k) (w2_at m c t k d)

theorem gate_block (w : FVec Ideal S16x1024 .bf16) (d : Fin 16) (hw : ∀ k : Fin 1024, w (ix2 d k) = m ((c : Thread nD τ).loc main_arg4) (ix2 d k))
    (r : Fin 512) : (∑ k : Fin 1024, w (ix2 d k) * act m c t (ix2 r k) : EReal)
    = gateAt (m ((c : Thread nD τ).loc main_arg0)) (m ((c : Thread nD τ).loc main_arg1)) (m ((c : Thread nD τ).loc main_arg2)) (m ((c : Thread nD τ).loc main_arg4)) d (rowOf t r) :=
  Finset.sum_congr rfl fun k _ => (mul_comm (G := EReal) _ _).trans (congrArg₂ (fun y z => y * z) (act_at m c t r k) (hw k))

end Cert.Kernel3Ideal.Proj
-- ==== Proof.ProjValue.lean ====
/- The arrays the projection leaves, block by block. -/
module

public import proofs.«01_k».proof.Proof.ProjBlock

@[expose] public section

set_option maxRecDepth 16384

noncomputable section

namespace Cert.Kernel3Ideal.Proj

open Cert.Kernel3Ideal Cert.Kernel3Ideal.Gen
open Cert.Reference3Ideal.Proj (modded entry actAt projAt gateAt silu convRow convAt)
open Idealize.ShloMosaic Idealize.ShloMosaic.TcCoe Idealize.SL.Sem
open Idealize.ShloMosaic.Pipeline (Dat)

variable (m : (ℓ : Loc nD τ sig) → Buf (Elt Ideal) ℓ)

/-- The array of the product's columns of the gated linear attention. -/
theorem final10 (c : Dev nD) : (dats m 0 c).arrAt 10 (cfgs 0).N = fun j : S34816x1664.Idx =>
    glaAt (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 10 _ (by decide +kernel) fun t _ y => ?_
  blk_simp
  rw [after0_10]
  unfold outsAt0 out0_A_10
  frame_out
  obtain ⟨r, d, rfl⟩ : ∃ r d, y = ix2 r d := ⟨y 0, y 1, (ix2_eta y).symm⟩
  refine Eq.trans ((pay8_at _ _ _ _ _ _ _ _ _ r d).trans (gla_block m c t r d))
    (congrArg₂ (fun a b => glaAt _ _ _ _ a b) (Fin.ext ?_) (Fin.ext ?_))
  all_goals
    blk_simp
    simp [rowOf, idx t]

/-- The array of the product's columns of the state-space scan. -/
theorem final11 (c : Dev nD) : (dats m 0 c).arrAt 11 (cfgs 0).N = fun j : S34816x256.Idx =>
    ssmAt (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 11 _ (by decide +kernel) fun t _ y => ?_
  blk_simp
  rw [after0_11]
  unfold outsAt0 out0_A_11
  frame_out
  obtain ⟨r, d, rfl⟩ : ∃ r d, y = ix2 r d := ⟨y 0, y 1, (ix2_eta y).symm⟩
  refine Eq.trans ((pay9_at _ _ r d).trans (ssm_block m c t r d))
    (congrArg₂ (fun a b => ssmAt _ _ _ _ a b) (Fin.ext ?_) (Fin.ext ?_))
  all_goals
    blk_simp
    simp [rowOf, idx t]

/-- The array of the product's columns of the matrix memory. -/
theorem final12 (c : Dev nD) : (dats m 0 c).arrAt 12 (cfgs 0).N = fun j : S34816x1280.Idx =>
    mlstmAt (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 12 _ (by decide +kernel) fun t _ y => ?_
  blk_simp
  rw [after0_12]
  unfold outsAt0 out0_A_12
  frame_out
  obtain ⟨r, d, rfl⟩ : ∃ r d, y = ix2 r d := ⟨y 0, y 1, (ix2_eta y).symm⟩
  refine Eq.trans ((pay10_at _ _ r d).trans (mlstm_block m c t r d))
    (congrArg₂ (fun a b => mlstmAt _ _ _ _ a b) (Fin.ext ?_) (Fin.ext ?_))
  all_goals
    blk_simp
    simp [rowOf, idx t]

/-- The array of the convolved columns. -/
theorem final13 (c : Dev nD) : (dats m 0 c).arrAt 13 (cfgs 0).N = fun j : S34816x1024.Idx =>
    convAt (m ((c : Thread nD τ).loc main_arg0)) (m ((c : Thread nD τ).loc main_arg1))
      (m ((c : Thread nD τ).loc main_arg2)) (m ((c : Thread nD τ).loc main_arg3)) (m ((c : Thread nD τ).loc main_arg5))
      (m ((c : Thread nD τ).loc main_arg6)) (m ((c : Thread nD τ).loc main_arg7)) (j 0) (j 1) := by
  refine (dats m 0 c).arrAt_eq_of_covers 13 _ (by decide +kernel) fun t _ y => ?_
  blk_simp
  rw [after0_13]
  unfold outsAt0 out0_A_13
  frame_out
  obtain ⟨r, d, rfl⟩ : ∃ r d, y = ix2 r d := ⟨y 0, y 1, (ix2_eta y).symm⟩
  refine Eq.trans (conv_block m c t r d)
    (congrArg₂ (fun a b => convAt _ _ _ _ _ _ _ a b) (Fin.ext ?_) (Fin.ext ?_))
  all_goals
    blk_simp
    simp [rowOf, idx t]

/-- The array of the gates' product, rows across. -/
theorem final14 (c : Dev nD) : (dats m 0 c).arrAt 14 (cfgs 0).N = fun j : S16x34816.Idx =>
    gateAt (m ((c : Thread nD τ).loc main_arg0)) (m ((c : Thread nD τ).loc main_arg1))
      (m ((c : Thread nD τ).loc main_arg2)) (m ((c : Thread nD τ).loc main_arg4)) (j 0) (j 1) := by
  refine (dats m 0 c).arrAt_eq_of_covers 14 _ (by decide +kernel) fun t _ y => ?_
  blk_simp
  rw [after0_14]
  unfold outsAt0 out0_A_14
  frame_out
  obtain ⟨r, d, rfl⟩ : ∃ r d, y = ix2 r d := ⟨y 0, y 1, (ix2_eta y).symm⟩
  refine Eq.trans ((pay11_at _ _ r d).trans (gate_block m c t _ r (gates_at m c t r) d))
    (congrArg₂ (fun a b => gateAt _ _ _ _ a b) (Fin.ext ?_) (Fin.ext ?_))
  all_goals
    blk_simp
    simp [rowOf, idx t]

end Cert.Kernel3Ideal.Proj
-- ==== Proof.Proj.lean ====
/- The projection's claims: the call's run ends with the five arrays `ProjValue.lean` names, the reference's run with the
   ones `ProjRef.lean` reads, and they are the same functions of the arguments. -/
module

public import proofs.«01_k».proof.Defs
public import proofs.«01_k».proof.Proof.ProjValue
public import proofs.«01_k».proof.Proof.Gen.Kernel3.Frame
public import proofs.«01_k».proof.Proof.Gen.Reference3Ideal.Run
public import Idealize.ShloMosaic.Lib.Quiescent

@[expose] public section

set_option maxRecDepth 16384

namespace Cert.ProjProof

open Idealize.ShloMosaic Idealize.ShloMosaic.TcCoe Idealize.SL.Sem

theorem frame_bits : Cert.quiescent_Kernel3 (hKernel3 := Cert.Kernel3.Gen.facts) :=
  fun m ρ _ => Cert.Kernel3.Gen.frame m ρ

theorem frame_ideal : Cert.quiescent_Kernel3Ideal (hKernel3Ideal := Cert.Kernel3Ideal.Gen.facts) :=
  fun m ρ _ => Cert.Kernel3Ideal.Gen.frame m ρ

theorem frame_reference : Cert.quiescent_Reference3Ideal (hReference3Ideal := Cert.Reference3Ideal.Gen.facts) :=
  fun m ρ _ => (θ_run Cert.Reference3Ideal.defs _ _).mono
    (fun r h => ⟨fun c => (h c).2.2.2.2.2, sem_eq_zero_of_no_sems (by decide) r.2⟩) (Cert.Reference3Ideal.Value.run m ρ)

/-- The call and its reference end with the same five arrays. -/
theorem equal : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2.1.trans ?_,
    (h c).2.2.2.1.trans ?_, (h c).2.2.2.2.1.trans ?_, (h c).2.2.2.2.2⟩) (Cert.Reference3Ideal.Value.run m' g')
  all_goals obtain ⟨h0, h1, h2, h3, h4, h5, h6, h7⟩ := hagree c
  · refine (Cert.Reference3Ideal.Read.val_main_v94_eq _ _ _ _).trans ?_
    rw [h0, h1, h2, h3]
    refine Eq.trans ?_ (Cert.Kernel3Ideal.Proj.final10 m c).symm
    funext j
    exact (congrArg _ (ix2_eta j).symm).trans (Cert.Reference3Ideal.Proj.gla_at _ _ _ _ (j 0) (j 1))
  · refine (Cert.Reference3Ideal.Read.val_main_v95_eq _ _ _ _).trans ?_
    rw [h0, h1, h2, h3]
    refine Eq.trans ?_ (Cert.Kernel3Ideal.Proj.final11 m c).symm
    funext j
    exact (congrArg _ (ix2_eta j).symm).trans (Cert.Reference3Ideal.Proj.ssm_at _ _ _ _ (j 0) (j 1))
  · refine (Cert.Reference3Ideal.Read.val_main_v96_eq _ _ _ _).trans ?_
    rw [h0, h1, h2, h3]
    refine Eq.trans ?_ (Cert.Kernel3Ideal.Proj.final12 m c).symm
    funext j
    exact (congrArg _ (ix2_eta j).symm).trans (Cert.Reference3Ideal.Proj.mlstm_at _ _ _ _ (j 0) (j 1))
  · refine (Cert.Reference3Ideal.Read.val_main_v93_eq m' c).trans ?_
    rw [h0, h1, h2, h3, h5, h6, h7]
    refine Eq.trans ?_ (Cert.Kernel3Ideal.Proj.final13 m c).symm
    funext j
    exact (congrArg _ (ix2_eta j).symm).trans (Cert.Reference3Ideal.Proj.conv_at _ _ _ _ _ _ _ (j 0) (j 1))
  · refine (Cert.Reference3Ideal.Read.val_main_v100_eq _ _ _ _).trans ?_
    rw [h0, h1, h2, h4]
    refine Eq.trans ?_ (Cert.Kernel3Ideal.Proj.final14 m c).symm
    funext j
    exact (congrArg _ (ix2_eta j).symm).trans (Cert.Reference3Ideal.Proj.gate_at _ _ _ _ (j 0) (j 1))

end Cert.ProjProof
-- ==== Proof.ResidRef.lean ====
/- What the reference of the last residual and the final norm computes, entry by entry. -/
module

public import proofs.«01_k».proof.Proof.Gen.Reference4Ideal.Read
public import Idealize.ShloMosaic.Lib.Pipeline.ValueKit

@[expose] public section

set_option maxRecDepth 16384

noncomputable section

namespace Cert.Reference4Ideal.Resid

open Cert.Reference4Ideal Cert.Reference4Ideal.Gen Cert.Reference4Ideal.Read
open Idealize.ShloMosaic Idealize.ShloMosaic.TcCoe Idealize.SL.Sem

/-- One entry of a row that is scaled to unit mean square and by a gain. -/
def normed (x gain : Fin 1024 → EReal) (k : Fin 1024) : EReal :=
  x k * Ideal.rsqrt (Ideal.div (∑ l, x l * x l) (Ideal.ofBits FTy.f32 1149239296#32) + Ideal.ofBits FTy.f32 897988541#32)
    * gain k

/-- One entry of a row of the result: the residual row plus its sequence's gate times the sum of the row's two experts,
    normed. -/
def outAt (h y0 y1 : FVec Ideal S32768x1024 .f32) (m : FVec Ideal S4x16x8x1024 .f32) (n : FVec Ideal S1x1024 .f32)
    (r : Fin 32768) (d : Fin 1024) : EReal :=
  normed (fun l => h (ix2 r l) + m (ix4 3 ⟨r / 4096, by omega⟩ 5 l) * (y0 (ix2 r l) + y1 (ix2 r l))) (fun l => n (ix2 0 l)) d

theorem ref_at (h y0 y1 : FVec Ideal S32768x1024 .f32) (m : FVec Ideal S4x16x8x1024 .f32) (n : FVec Ideal S1x1024 .f32)
    (r : Fin 32768) (d : Fin 1024) : val_main_v19 (F := Ideal) h y0 y1 m n (ix2 r d) = outAt h y0 y1 m n r d := by
  pointwise [val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, outAt, normed]

end Cert.Reference4Ideal.Resid
-- ==== Proof.ResidValue.lean ====
/- The array the last residual's call leaves, block by block. -/
module

public import proofs.«01_k».proof.Proof.Gen.Kernel4Ideal.Value
public import proofs.«01_k».proof.Proof.ResidRef
public import Idealize.ShloMosaic.Lib.Pipeline.ValueKit

@[expose] public section

set_option maxRecDepth 16384

noncomputable section

namespace Cert.Kernel4Ideal.Resid

open Cert.Kernel4Ideal Cert.Kernel4Ideal.Gen
open Cert.Reference4Ideal.Resid (normed outAt)
open Idealize.ShloMosaic Idealize.ShloMosaic.TcCoe Idealize.SL.Sem
open Idealize.ShloMosaic.Pipeline (Dat)

theorem idx : ∀ t : Fin cfg0.N, (grid0.coords t 0).val = t.val ∧ win0_0.index t = ![t.val, 0] ∧ win0_1.index t = ![t.val, 0]
    ∧ win0_2.index t = ![t.val, 0] ∧ win0_3.index t = ![3, t.val / 16, 0, 0] ∧ win0_4.index t = ![0, 0]
    ∧ win0_5.index t = ![t.val, 0] :=
  (by decide +kernel : ∀ t : Fin grid0.N, _)

theorem pay1_at (h y0 y1 : FVec Ideal S256x1024 .f32) (a : FVec Ideal S1x1x8x1024 .f32) (n : FVec Ideal S1x1024 .f32)
    (r : Fin 256) (d : Fin 1024) :
    k0_pay1 (F := Ideal) h a y0 y1 n (ix2 r d)
      = normed (fun l => h (ix2 r l) + a (ix4 0 0 5 l) * (y0 (ix2 r l) + y1 (ix2 r l))) (fun l => n (ix2 0 l)) d := by
  pointwise [k0_pay1, normed]

/-- A point's rows lie among the array's rows. -/
theorem row_lt (t : Fin cfg0.N) {r : ℕ} (hr : r < 256) : (t : ℕ) * 256 + r < 32768 := by
  have : (t : ℕ) < 128 := t.isLt
  omega

/-- Row `r` of point `t`. -/
def rowOf (t : Fin cfg0.N) (r : Fin 256) : Fin 32768 := ⟨t * 256 + r, row_lt t r.isLt⟩

variable (m : (ℓ : Loc nD τ sig) → Buf (Elt Ideal) ℓ) (c : Dev nD) (t : Fin cfg0.N)

theorem rows_at (r : Fin 256) (k : Fin 1024) :
    iblk m c 0 t (ix2 r k) = m ((c : Thread nD τ).loc main_arg0) (ix2 (rowOf t r) k) := by
  unfold rowOf
  blk_point [iblk, V, idx t]

theorem first_at (r : Fin 256) (k : Fin 1024) :
    iblk m c 1 t (ix2 r k) = m ((c : Thread nD τ).loc main_arg1) (ix2 (rowOf t r) k) := by
  unfold rowOf
  blk_point [iblk, V, idx t]

theorem second_at (r : Fin 256) (k : Fin 1024) :
    iblk m c 2 t (ix2 r k) = m ((c : Thread nD τ).loc main_arg2) (ix2 (rowOf t r) k) := by
  unfold rowOf
  blk_point [iblk, V, idx t]

theorem gate_at (r : Fin 256) (k : Fin 1024) :
    iblk m c 3 t (ix4 0 0 5 k) = m ((c : Thread nD τ).loc main_arg3) (ix4 3 ⟨rowOf t r / 4096, by omega⟩ 5 k) := by
  unfold rowOf
  blk_point [iblk, V, idx t]

theorem gain_at (k : Fin 1024) : iblk m c 4 t (ix2 0 k) = m ((c : Thread nD τ).loc main_arg4) (ix2 0 k) := by
  blk_point [iblk, V, idx t]

/-- A point's block is its rows of the result. -/
theorem block (r : Fin 256) (d : Fin 1024) :
    k0_pay1 (F := Ideal) (iblk m c 0 t) (iblk m c 3 t) (iblk m c 1 t) (iblk m c 2 t) (iblk m c 4 t) (ix2 r d)
      = outAt (m ((c : Thread nD τ).loc main_arg0)) (m ((c : Thread nD τ).loc main_arg1)) (m ((c : Thread nD τ).loc main_arg2))
        (m ((c : Thread nD τ).loc main_arg3)) (m ((c : Thread nD τ).loc main_arg4)) (rowOf t r) d :=
  (pay1_at _ _ _ _ _ r d).trans (congrArg₂ (fun x g => normed x g d)
    (funext fun l => congrArg₂ (fun x y : EReal => x + y) (rows_at m c t r l) (congrArg₂ (fun x y : EReal => x * y)
      (gate_at m c t r l) (congrArg₂ (fun x y : EReal => x + y) (first_at m c t r l) (second_at m c t r l))))
    (funext fun l => gain_at m c t l))

/-- The array the call leaves is the model's result, row by row. -/
theorem final (c : Dev nD) : (dats m 0 c).arrAt 5 (cfgs 0).N = fun j : S32768x1024.Idx =>
    outAt (m ((c : Thread nD τ).loc main_arg0)) (m ((c : Thread nD τ).loc main_arg1))
      (m ((c : Thread nD τ).loc main_arg2)) (m ((c : Thread nD τ).loc main_arg3)) (m ((c : Thread nD τ).loc main_arg4))
      (j 0) (j 1) := by
  refine (dats m 0 c).arrAt_eq_of_covers 5 _ (by decide +kernel) fun t _ y => ?_
  blk_simp
  rw [after0_5]
  unfold out0_5
  frame_out
  obtain ⟨r, d, rfl⟩ : ∃ r d, y = ix2 r d := ⟨y 0, y 1, (ix2_eta y).symm⟩
  refine Eq.trans (block m c t r d) (congrArg₂ (fun a b => outAt _ _ _ _ _ a b) (Fin.ext ?_) (Fin.ext ?_))
  all_goals
    blk_simp
    simp [rowOf, idx t]

end Cert.Kernel4Ideal.Resid
-- ==== Proof.Resid.lean ====
/- The last residual call's claims: the call's run ends with the array `ResidValue.lean` names, the reference's run with the
   one `ResidRef.lean` reads, and the two are the same function of the arguments. -/
module

public import proofs.«01_k».proof.Defs
public import proofs.«01_k».proof.Proof.ResidValue
public import proofs.«01_k».proof.Proof.Gen.Kernel4.Frame
public import proofs.«01_k».proof.Proof.Gen.Reference4Ideal.Run
public import Idealize.ShloMosaic.Lib.Quiescent

@[expose] public section

set_option maxRecDepth 16384

namespace Cert.ResidProof

open Idealize.ShloMosaic Idealize.ShloMosaic.TcCoe Idealize.SL.Sem

theorem frame_bits : Cert.quiescent_Kernel4 (hKernel4 := Cert.Kernel4.Gen.facts) :=
  fun m ρ _ => Cert.Kernel4.Gen.frame m ρ

theorem frame_ideal : Cert.quiescent_Kernel4Ideal (hKernel4Ideal := Cert.Kernel4Ideal.Gen.facts) :=
  fun m ρ _ => Cert.Kernel4Ideal.Gen.frame m ρ

theorem frame_reference : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

/-- The call and its reference end with the same array. -/
theorem equal : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 5 Cert.Kernel4Ideal.cfg0.N, Cert.Kernel4Ideal.Value.run_blocks m g, ?_⟩
  refine (θ_run Cert.Reference4Ideal.defs _ _).mono (fun r h c => ⟨(h c).1.trans ?_, (h c).2⟩)
    (Cert.Reference4Ideal.Value.run m' g')
  refine (Cert.Reference4Ideal.Read.val_main_v19_eq _ _ _ _ _).trans ?_
  obtain ⟨h0, h1, h2, h3, h4⟩ := hagree c
  rw [h0, h1, h2, h3, h4]
  refine Eq.trans ?_ (Cert.Kernel4Ideal.Resid.final m c).symm
  funext j
  exact (congrArg _ (ix2_eta j).symm).trans (Cert.Reference4Ideal.Resid.ref_at _ _ _ _ _ (j 0) (j 1))

end Cert.ResidProof
-- ==== Proof.MixRows.lean ====
/- The row functions of the output projection, and what they read of the printed constants. -/
module

public import proofs.«01_k».proof.Proof.ProjRef

@[expose] public section

noncomputable section

namespace Cert.MixRows

open Cert.Reference3Ideal.Proj (modded entry silu)
open Idealize.ShloMosaic

/-- Column `l` of the head that column `j` lies in. -/
def ofHead (j : Fin 512) (l : Fin 128) : Fin 512 := ⟨(j : ℕ) / 128 * 128 + l, by omega⟩

/-- One entry of a row of four heads, each scaled to unit mean square over its 96 values. -/
def headed (o : Fin 512 → EReal) (j : Fin 512) : EReal :=
  o j * Ideal.rsqrt (Ideal.div (∑ l : Fin 128, o (ofHead j l) * o (ofHead j l)) (Ideal.ofBits FTy.f32 1119879168#32)
    + Ideal.ofBits FTy.f32 897988541#32)

/-- One entry of a row of the gated linear attention: its heads, their gain, and the gate's product with its logistic. -/
def glaRow (o p gain : Fin 512 → EReal) (j : Fin 512) : EReal := headed o j * gain j * silu (p j)

/-- The smooth rectifier in its tangent form. -/
def gelu (x : EReal) : EReal :=
  x * (Ideal.ofBits FTy.f32 1056964608#32 * (1 + Ideal.tanh (Ideal.ofBits FTy.f32 1061962282#32
    * (x + Ideal.ofBits FTy.f32 1027024659#32 * (x * x * x)))))

/-- One entry of a row of the state-space scan: a linear gate of the row by the row itself. -/
def ssmRow (z : Fin 256 → EReal) (w : Fin 256 → Fin 256 → EReal) (b : Fin 256 → EReal) (j : Fin 256) : EReal :=
  z j * Ideal.logistic (∑ k, z k * w k j + b j)

/-- One entry of a row of the matrix memory: its heads, their gain, and the gate's logistic. -/
def memRow (o s gain : Fin 512 → EReal) (j : Fin 512) : EReal := headed o j * gain j * Ideal.logistic (s j)

/-- The number of a head's values, as the real 96. -/
theorem values_96 : Ideal.ofBits FTy.f32 1119879168#32 = ((96 : ℝ) : EReal) := by
  simp [Ideal.ofBits, Ideal.ieee, -EReal.coe_mul]; norm_num

/-- One entry of a head that is scaled by the reciprocal of 96, the number of its values. -/
def headOf (o : Fin 512 → EReal) (q : Fin 4) (l : Fin 128) : EReal :=
  o ⟨128 * q + l, by omega⟩ * Ideal.rsqrt ((∑ k : Fin 128, o ⟨128 * q + k, by omega⟩ * o ⟨128 * q + k, by omega⟩)
    * ((96⁻¹ : ℝ) : EReal) + Ideal.ofBits FTy.f32 897988541#32)

/-- A quotient by 96 is the product with its reciprocal, so the two forms of a head are one. -/
theorem headed_eq (o : Fin 512 → EReal) (j : Fin 512) (q : Fin 4) (l : Fin 128) (h : (j : ℕ) = 128 * q + l) :
    headed o j = headOf o q l := by
  have e : ∀ k : Fin 128, ofHead j k = ⟨128 * q + k, by omega⟩ := fun k => Fin.ext (by unfold ofHead; simp only; omega)
  have hj : j = ⟨128 * q + l, by omega⟩ := Fin.ext h
  unfold headed headOf
  rw [values_96, Ideal.div_coe (by norm_num), one_div]
  simp only [e]
  rw [hj]

/-- The rectifier with its half at the front. -/
theorem gelu_eq (x : EReal) : gelu x = Ideal.ofBits FTy.f32 1056964608#32 * x * (1 + Ideal.tanh (Ideal.ofBits FTy.f32 1061962282#32
    * (x + Ideal.ofBits FTy.f32 1027024659#32 * (x * x * x)))) := by
  unfold gelu
  rw [← mul_assoc, mul_comm x]

end Cert.MixRows
-- ==== Proof.MixPay.lean ====
/- The output projection's values at one grid point, entry by entry. -/
module

public import proofs.«01_k».proof.Proof.Gen.Kernel5Ideal.Skeleton
public import proofs.«01_k».proof.Proof.MixRows
public import Idealize.ShloMosaic.Lib.Pipeline.ValueKit

@[expose] public section

set_option maxRecDepth 16384

noncomputable section

namespace Cert.Kernel5Ideal.Mix

open Cert.Kernel5Ideal Cert.Kernel5Ideal.Gen
open Cert.Reference3Ideal.Proj (modded entry silu)
open Cert.MixRows
open Idealize.ShloMosaic Idealize.ShloMosaic.TcCoe Idealize.SL.Sem

/-- The kernel's constant of a head is the exact reciprocal of 96. -/
theorem per_head : Named.named (F := Ideal) Cert.Kernel5Ideal.κ "per_head" (φ := .f32) 0x3C2AAAAB#32 = ((96⁻¹ : ℝ) : EReal) :=
  IdealRules.named_const.ideal_named_scalar _ _ _ _ rfl

/-- A head's entry, from any way of counting its columns. -/
theorem headOf_at (o : Fin 512 → EReal) (q : Fin 4) (l : Fin 128) (i : Fin 512) (e : Fin 128 → Fin 512)
    (hi : (i : ℕ) = 128 * q + l) (he : ∀ x, (e x : ℕ) = 128 * q + x) :
    o i * Ideal.rsqrt ((∑ x, o (e x) * o (e x)) * ((96⁻¹ : ℝ) : EReal) + Ideal.ofBits FTy.f32 897988541#32) = headOf o q l := by
  have h1 : i = ⟨128 * q + l, by omega⟩ := Fin.ext hi
  have h2 : ∀ x, e x = ⟨128 * q + x, by omega⟩ := fun x => Fin.ext (he x)
  unfold headOf
  simp only [h2, h1]

theorem pay3_at (a b : FVec Ideal S256x512 .bf16) (r : Fin 256) (l : Fin 128) :
    k0_pay3 (F := Ideal) a b (ix2 r l) = headOf (fun l => a (ix2 r l) + b (ix2 r l)) 0 l := by
  obtain ⟨X, hX⟩ : ∃ X, headOf (fun l => a (ix2 r l) + b (ix2 r l)) 0 l = X := ⟨_, rfl⟩
  rw [hX]
  pointwise [k0_pay3, k0_pay2, per_head]
  exact (headOf_at (fun l => a (ix2 r l) + b (ix2 r l)) 0 l ⟨l, by omega⟩ (fun x => ⟨x, by omega⟩) (by simp) (fun x => by simp)).trans hX

theorem pay4_at (a b : FVec Ideal S256x512 .bf16) (r : Fin 256) (l : Fin 128) :
    k0_pay4 (F := Ideal) a b (ix2 r l) = headOf (fun l => a (ix2 r l) + b (ix2 r l)) 1 l := by
  obtain ⟨X, hX⟩ : ∃ X, headOf (fun l => a (ix2 r l) + b (ix2 r l)) 1 l = X := ⟨_, rfl⟩
  rw [hX]
  pointwise [k0_pay4, k0_pay2, per_head]
  exact (headOf_at (fun l => a (ix2 r l) + b (ix2 r l)) 1 l ⟨128 + l, by omega⟩ (fun x => ⟨128 + x, by omega⟩) (by simp) (fun x => by simp)).trans hX

theorem pay5_at (a b : FVec Ideal S256x512 .bf16) (r : Fin 256) (l : Fin 128) :
    k0_pay5 (F := Ideal) a b (ix2 r l) = headOf (fun l => a (ix2 r l) + b (ix2 r l)) 2 l := by
  obtain ⟨X, hX⟩ : ∃ X, headOf (fun l => a (ix2 r l) + b (ix2 r l)) 2 l = X := ⟨_, rfl⟩
  rw [hX]
  pointwise [k0_pay5, k0_pay2, per_head]
  exact (headOf_at (fun l => a (ix2 r l) + b (ix2 r l)) 2 l ⟨256 + l, by omega⟩ (fun x => ⟨256 + x, by omega⟩) (by simp) (fun x => by simp)).trans hX

theorem pay13_at (a b : FVec Ideal S256x512 .bf16) (r : Fin 256) (l : Fin 128) :
    k0_pay13 (F := Ideal) a b (ix2 r l) = headOf (fun l => a (ix2 r l) + b (ix2 r l)) 0 l := by
  obtain ⟨X, hX⟩ : ∃ X, headOf (fun l => a (ix2 r l) + b (ix2 r l)) 0 l = X := ⟨_, rfl⟩
  rw [hX]
  pointwise [k0_pay13, k0_pay12, per_head]
  exact (headOf_at (fun l => a (ix2 r l) + b (ix2 r l)) 0 l ⟨l, by omega⟩ (fun x => ⟨x, by omega⟩) (by simp) (fun x => by simp)).trans hX

theorem pay14_at (a b : FVec Ideal S256x512 .bf16) (r : Fin 256) (l : Fin 128) :
    k0_pay14 (F := Ideal) a b (ix2 r l) = headOf (fun l => a (ix2 r l) + b (ix2 r l)) 1 l := by
  obtain ⟨X, hX⟩ : ∃ X, headOf (fun l => a (ix2 r l) + b (ix2 r l)) 1 l = X := ⟨_, rfl⟩
  rw [hX]
  pointwise [k0_pay14, k0_pay12, per_head]
  exact (headOf_at (fun l => a (ix2 r l) + b (ix2 r l)) 1 l ⟨128 + l, by omega⟩ (fun x => ⟨128 + x, by omega⟩) (by simp) (fun x => by simp)).trans hX

theorem pay8_at (a b : FVec Ideal S256x512 .bf16) (g : FVec Ideal S1x512 .f32) (p : FVec Ideal S256x512 .f32) (r : Fin 256)
    (j : Fin 512) :
    k0_pay8 (F := Ideal) g (k0_pay3 a b) (k0_pay4 a b) (k0_pay5 a b) (k0_pay6 a b) (k0_pay7 a b) p (ix2 r j)
      = glaRow (fun l => a (ix2 r l) + b (ix2 r l)) (fun l => p (ix2 r l)) (fun l => g (ix2 0 l)) j := by
  obtain ⟨X, hX⟩ : ∃ X, glaRow (fun l => a (ix2 r l) + b (ix2 r l)) (fun l => p (ix2 r l)) (fun l => g (ix2 0 l)) j = X := ⟨_, rfl⟩
  rw [hX]
  obtain ⟨c3, h3⟩ : ∃ y, k0_pay3 (F := Ideal) a b = y := ⟨_, rfl⟩
  obtain ⟨c4, h4⟩ : ∃ y, k0_pay4 (F := Ideal) a b = y := ⟨_, rfl⟩
  obtain ⟨c5, h5⟩ : ∃ y, k0_pay5 (F := Ideal) a b = y := ⟨_, rfl⟩
  rw [h3, h4, h5]
  pointwise [k0_pay8, k0_pay7, k0_pay6, k0_pay2, per_head]
  refine Eq.trans (congrArg (fun y => y * g (ix2 0 j) * (p (ix2 r j) * Ideal.logistic (p (ix2 r j)))) ?_) hX
  subst h3 h4 h5
  by_cases t : (j : ℕ) < 128
  · exact (dif_pos t).trans ((pay3_at a b r _).trans (headed_eq _ j 0 ⟨j, t⟩ (by simp)).symm)
  refine (dif_neg t).trans ?_
  by_cases u : (j : ℕ) - 128 < 128
  · exact (dif_pos u).trans ((pay4_at a b r _).trans (headed_eq _ j 1 ⟨j - 128, u⟩ (by simp; omega)).symm)
  refine (dif_neg u).trans ?_
  by_cases v : (j : ℕ) - 128 - 128 < 128
  · exact (dif_pos v).trans ((pay5_at a b r _).trans (headed_eq _ j 2 ⟨j - 128 - 128, v⟩ (by simp; omega)).symm)
  refine (dif_neg v).trans ?_
  exact (headOf_at (fun l => a (ix2 r l) + b (ix2 r l)) 3 ⟨j - 128 - 128 - 128, by omega⟩ ⟨384 + (j - 128 - 128 - 128), by omega⟩
    (fun x => ⟨384 + x, by omega⟩) (by simp) (fun x => by simp)).trans (headed_eq _ j 3 _ (by simp; omega)).symm

theorem pay9_at (a b : FVec Ideal S1x256x256 .f32) (g : FVec Ideal S1x256 .f32) (u : FVec Ideal S256x256 .f32) (r k : Fin 256) :
    k0_pay9 (F := Ideal) a b g u (ix2 r k) = gelu (a (ix3 0 r k) + b (ix3 0 r k) + g (ix2 0 k) * u (ix2 r k)) := by
  rw [gelu_eq]
  pointwise [k0_pay9]

theorem pay11_at (a b : FVec Ideal S1x256x256 .f32) (g : FVec Ideal S1x256 .f32) (u : FVec Ideal S256x256 .f32)
    (w : FVec Ideal S256x256 .bf16) (e : FVec Ideal S1x256 .f32) (r k : Fin 256) :
    k0_pay11 (F := Ideal) (k0_pay9 a b g u) (k0_pay10 a b g u) w (constant S256x256 .f32 0x00000000#32) e (ix2 r k)
      = ssmRow (fun k => k0_pay9 (F := Ideal) a b g u (ix2 r k)) (fun k l => w (ix2 k l)) (fun l => e (ix2 0 l)) k := by
  obtain ⟨c9, h9⟩ : ∃ y, k0_pay9 (F := Ideal) a b g u = y := ⟨_, rfl⟩
  unfold k0_pay10
  rw [h9]
  pointwise [k0_pay11, ssmRow]

/-- A point's rows of the result: the three products, gated, added to the residual. -/
theorem pay18_at (f : FVec Ideal S256x512 .f32) (z : FVec Ideal S256x256 .f32) (a b : FVec Ideal S256x512 .bf16)
    (g : FVec Ideal S1x512 .f32) (s : FVec Ideal S256x512 .f32) (w1 : FVec Ideal S512x1024 .bf16) (w2 : FVec Ideal S256x1024 .bf16)
    (w3 : FVec Ideal S512x1024 .bf16) (e : FVec Ideal S1x1x8x1024 .f32) (h : FVec Ideal S256x1024 .f32) (r : Fin 256) (d : Fin 1024) :
    k0_pay18 (F := Ideal) f z (k0_pay12 a b) g (k0_pay13 a b) (k0_pay14 a b) (k0_pay15 a b) (k0_pay16 a b) s w1 w2 w3 e h (ix2 r d)
      = h (ix2 r d) + e (ix4 0 0 2 d) * ((∑ k : Fin 512, f (ix2 r k) * w1 (ix2 k d)) + (∑ k : Fin 256, z (ix2 r k) * w2 (ix2 k d))
        + ∑ k : Fin 512, memRow (fun l => a (ix2 r l) + b (ix2 r l)) (fun l => s (ix2 r l)) (fun l => g (ix2 0 l)) k * w3 (ix2 k d)) := by
  obtain ⟨A, hA⟩ : ∃ A, memRow (fun l => a (ix2 r l) + b (ix2 r l)) (fun l => s (ix2 r l)) (fun l => g (ix2 0 l)) = A := ⟨_, rfl⟩
  rw [hA]
  obtain ⟨X, hX⟩ : ∃ X, h (ix2 r d) + e (ix4 0 0 2 d) * ((∑ k : Fin 512, f (ix2 r k) * w1 (ix2 k d))
    + (∑ k : Fin 256, z (ix2 r k) * w2 (ix2 k d)) + ∑ k : Fin 512, A k * w3 (ix2 k d)) = X := ⟨_, rfl⟩
  rw [hX]
  obtain ⟨c3, h3⟩ : ∃ y, k0_pay13 (F := Ideal) a b = y := ⟨_, rfl⟩
  obtain ⟨c4, h4⟩ : ∃ y, k0_pay14 (F := Ideal) a b = y := ⟨_, rfl⟩
  rw [h3, h4]
  pointwise [k0_pay18, k0_pay17, k0_pay16, k0_pay15, k0_pay12, per_head]
  refine Eq.trans (congrArg (fun y => h (ix2 r d) + e (ix4 0 0 2 d) * ((∑ k : Fin 512, f (ix2 r k) * w1 (ix2 k d))
    + (∑ k : Fin 256, z (ix2 r k) * w2 (ix2 k d)) + y)) (Finset.sum_congr rfl fun j _ => congrArg (fun y => y * w3 (ix2 j d)) ?_)) hX
  refine Eq.trans (congrArg (fun y => y * g (ix2 0 j) * Ideal.logistic (s (ix2 r j))) ?_) (congrFun hA j)
  subst h3 h4
  by_cases t : (j : ℕ) < 128
  · exact (dif_pos t).trans ((pay13_at a b r _).trans (headed_eq _ j 0 ⟨j, t⟩ (by simp)).symm)
  refine (dif_neg t).trans ?_
  by_cases u : (j : ℕ) - 128 < 128
  · exact (dif_pos u).trans ((pay14_at a b r _).trans (headed_eq _ j 1 ⟨j - 128, u⟩ (by simp; omega)).symm)
  refine (dif_neg u).trans ?_
  by_cases v : (j : ℕ) - 128 - 128 < 128
  · exact (dif_pos v).trans ((headOf_at (fun l => a (ix2 r l) + b (ix2 r l)) 2 ⟨j - 128 - 128, v⟩ ⟨256 + (j - 128 - 128), by omega⟩
      (fun x => ⟨256 + x, by omega⟩) (by simp) (fun x => by simp)).trans (headed_eq _ j 2 _ (by simp; omega)).symm)
  refine (dif_neg v).trans ?_
  exact (headOf_at (fun l => a (ix2 r l) + b (ix2 r l)) 3 ⟨j - 128 - 128 - 128, by omega⟩ ⟨384 + (j - 128 - 128 - 128), by omega⟩
    (fun x => ⟨384 + x, by omega⟩) (by simp) (fun x => by simp)).trans (headed_eq _ j 3 _ (by simp; omega)).symm

theorem pay1_at (e : FVec Ideal S1x1x8x1024 .f32) (x : FVec Ideal S256x1024 .f32) (n : FVec Ideal S1x1024 .f32) (r : Fin 256) (d : Fin 1024) :
    k0_pay1 (F := Ideal) (k0_pay17 e) x n (ix2 r d)
      = modded (fun l => x (ix2 r l)) (fun l => n (ix2 0 l)) (fun l => e (ix4 0 0 4 l)) (fun l => e (ix4 0 0 3 l)) d := by
  pointwise [k0_pay1, k0_pay17, modded]

end Cert.Kernel5Ideal.Mix
-- ==== Proof.MixRef.lean ====
/- What the output projection's reference computes, entry by entry. -/
module

public import proofs.«01_k».proof.Proof.Gen.Reference5Ideal.Read
public import proofs.«01_k».proof.Proof.MixRows
public import Idealize.ShloMosaic.Lib.Pipeline.ValueKit

@[expose] public section

set_option maxRecDepth 16384

noncomputable section

namespace Cert.Reference5Ideal.Mix

open Cert.Reference5Ideal Cert.Reference5Ideal.Gen Cert.Reference5Ideal.Read
open Cert.Reference3Ideal.Proj (modded entry silu)
open Cert.MixRows
open Idealize.ShloMosaic Idealize.ShloMosaic.TcCoe Idealize.SL.Sem

variable (o1 o2 : FVec Ideal S34816x512 .bf16) (p : FVec Ideal S34816x1664 .f32) (y : FVec Ideal S2x34816x256 .f32)
  (u : FVec Ideal S34816x256 .f32) (q1 q2 : FVec Ideal S34816x512 .bf16) (s : FVec Ideal S34816x1280 .f32)
  (h : FVec Ideal S34816x1024 .f32) (m : FVec Ideal S4x16x8x1024 .f32) (gn mn : FVec Ideal S1x512 .f32)
  (sd : FVec Ideal S1x256 .f32) (gw : FVec Ideal S256x256 .bf16) (gb : FVec Ideal S1x256 .f32)
  (wo : FVec Ideal S1280x1024 .bf16) (n2 : FVec Ideal S1x1024 .f32)

def glaAt (r : Fin 34816) (j : Fin 512) : EReal :=
  glaRow (fun l => o1 (ix2 r l) + o2 (ix2 r l)) (fun l => p (ix2 r ⟨1024 + l, by omega⟩)) (fun l => gn (ix2 0 l)) j

def geluAt (r : Fin 34816) (k : Fin 256) : EReal :=
  gelu (y (ix3 0 r k) + y (ix3 1 r k) + sd (ix2 0 k) * u (ix2 r k))

def ssmAt (r : Fin 34816) (j : Fin 256) : EReal :=
  ssmRow (geluAt y u sd r) (fun k l => gw (ix2 k l)) (fun l => gb (ix2 0 l)) j

def memAt (r : Fin 34816) (j : Fin 512) : EReal :=
  memRow (fun l => q1 (ix2 r l) + q2 (ix2 r l)) (fun l => s (ix2 r ⟨512 + l, by omega⟩)) (fun l => mn (ix2 0 l)) j

/-- One entry of the mixed rows: the three scans' rows, one after the other, times the output weight. -/
def mixAt (r : Fin 34816) (d : Fin 1024) : EReal :=
  (∑ k : Fin 512, glaAt o1 o2 p gn r k * wo (ix2 ⟨k, by omega⟩ d))
    + (∑ k : Fin 256, ssmAt y u sd gw gb r k * wo (ix2 ⟨512 + k, by omega⟩ d))
    + ∑ k : Fin 512, memAt q1 q2 s mn r k * wo (ix2 ⟨768 + k, by omega⟩ d)

/-- One entry of the residual rows after the mixing. -/
def residAt (r : Fin 34816) (d : Fin 1024) : EReal :=
  h (ix2 r d) + m (ix4 0 (entry r) 2 d) * mixAt o1 o2 p y u q1 q2 s gn mn sd gw gb wo r d

/-- One entry of the rows that the feed-forward reads. -/
def normAt (r : Fin 34816) (d : Fin 1024) : EReal :=
  modded (residAt o1 o2 p y u q1 q2 s h m gn mn sd gw gb wo r) (fun l => n2 (ix2 0 l)) (fun l => m (ix4 0 (entry r) 4 l))
    (fun l => m (ix4 0 (entry r) 3 l)) d

theorem head_at (r : Fin 34816) (j : Fin 512) :
    val_main_v14 (F := Ideal) o1 o2 (ix2 r j) = headed (fun l => o1 (ix2 r l) + o2 (ix2 r l)) j := by
  obtain ⟨X, hX⟩ : ∃ X, headed (fun l => o1 (ix2 r l) + o2 (ix2 r l)) j = X := ⟨_, rfl⟩
  rw [hX]
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  exact hX

theorem head2_at (r : Fin 34816) (j : Fin 512) :
    val_main_v66 (F := Ideal) q1 q2 (ix2 r j) = headed (fun l => q1 (ix2 r l) + q2 (ix2 r l)) j := by
  obtain ⟨X, hX⟩ : ∃ X, headed (fun l => q1 (ix2 r l) + q2 (ix2 r l)) j = X := ⟨_, rfl⟩
  rw [hX]
  pointwise [val_main_v66, val_main_v65, val_main_v64, val_main_v63, val_main_v62, val_main_v61, val_main_v60, val_main_v59,
    val_main_v58, val_main_v57, val_main_v56, val_main_v55, val_main_v54, val_main_v53, val_main_v52, val_main_cst_8, val_main_cst_9,
    val_main_cst_10]
  exact hX

theorem gla_at (r : Fin 34816) (j : Fin 512) : val_main_v19 (F := Ideal) o1 o2 p gn (ix2 r j) = glaAt o1 o2 p gn r j := by
  pointwise [val_main_v19, val_main_v18, val_main_v17, val_main_v16, val_main_v15, head_at, val_main_call0_v0, val_main_call0_v1,
    val_main_call0_v2, val_main_call0_v3, val_main_call0_v4, val_main_call0_v5, val_main_call0_cst, val_main_call0_cst_0]
  rfl

theorem mem_at (r : Fin 34816) (j : Fin 512) : val_main_v76 (F := Ideal) q1 q2 s mn (ix2 r j) = memAt q1 q2 s mn r j := by
  pointwise [val_main_v76, val_main_v75, val_main_v74, val_main_v73, val_main_v72, val_main_v71, val_main_v70, val_main_v69,
    val_main_v68, val_main_v67, head2_at, val_main_cst_11, val_main_cst_12]
  rfl

theorem gelu_at (r : Fin 34816) (k : Fin 256) : val_main_v40 (F := Ideal) y u sd (ix2 r k) = geluAt y u sd r k := by
  pointwise [val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v21, val_main_v20, val_main_cst_2, val_main_cst_3, val_main_cst_4, val_main_cst_5]
  rfl

theorem ssm_at (r : Fin 34816) (j : Fin 256) : val_main_v51 (F := Ideal) y u sd gw gb (ix2 r j) = ssmAt y u sd gw gb r j := by
  pointwise [val_main_v51, val_main_v50, val_main_v49, val_main_v48, val_main_v47, val_main_v46, val_main_v45, val_main_v44,
    val_main_v43, val_main_v42, val_main_v41, gelu_at, val_main_cst_6, val_main_cst_7]
  rfl

/-- A sum over the mixed columns is the sum over the three scans' columns. -/
theorem sum_three (f : Fin 1280 → EReal) :
    ∑ x, f x = (∑ k : Fin 512, f ⟨k, by omega⟩) + (∑ k : Fin 256, f ⟨512 + k, by omega⟩) + ∑ k : Fin 512, f ⟨768 + k, by omega⟩ :=
  (Fin.sum_univ_add (a := 768) (b := 512) f).trans (congrArg (fun y => y + ∑ k : Fin 512, f ⟨768 + k, by omega⟩)
    (Fin.sum_univ_add (a := 512) (b := 256) (fun i => f (Fin.castAdd 512 i))))

theorem mix_at (r : Fin 34816) (d : Fin 1024) :
    val_main_v79 (F := Ideal) o1 o2 p y u q1 q2 s gn mn sd gw gb wo (ix2 r d)
      = mixAt o1 o2 p y u q1 q2 s gn mn sd gw gb wo r d := by
  obtain ⟨X, hX⟩ : ∃ X, mixAt o1 o2 p y u q1 q2 s gn mn sd gw gb wo r d = X := ⟨_, rfl⟩
  rw [hX]
  pointwise [val_main_v79, val_main_v78, val_main_v77, gla_at, ssm_at, mem_at]
  refine ((sum_three _).trans (congrArg₂ (fun a b => a + b) (congrArg₂ (fun a b => a + b) (Finset.sum_congr rfl fun k _ => ?_)
    (Finset.sum_congr rfl fun k _ => ?_)) (Finset.sum_congr rfl fun k _ => ?_))).trans hX
  · refine congrArg (fun a => a * wo (ix2 ⟨k, by omega⟩ d)) ?_
    exact dif_pos k.isLt
  · refine congrArg (fun a => a * wo (ix2 ⟨512 + k, by omega⟩ d)) ?_
    refine (dif_neg (by simp)).trans ((dif_pos (by simp)).trans (congrArg _ (Fin.ext ?_)))
    simp
  · refine congrArg (fun a => a * wo (ix2 ⟨768 + k, by omega⟩ d)) ?_
    refine (dif_neg (by simp; omega)).trans ((dif_neg (by simp; omega)).trans (congrArg _ (Fin.ext ?_)))
    simp only
    omega

theorem gate_at (r : Fin 34816) (d : Fin 1024) : val_main_v88 (F := Ideal) m (ix2 r d) = m (ix4 0 (entry r) 2 d) := by
  pointwise [val_main_v88, val_main_v87, val_main_v86, val_main_v85, val_main_v84, val_main_v83, val_main_v82, val_main_v81,
    val_main_v80]
  by_cases hr : (r : ℕ) % 4352 < 256
  · have e : entry r = 8 := Fin.ext (if_pos hr)
    simp only [hr, e, ↓reduceDIte]
  · have e : entry r = ⟨(r : ℕ) / 4352, by omega⟩ := Fin.ext (if_neg hr)
    simp only [hr, e, ↓reduceDIte]

theorem scale_at (r : Fin 34816) (d : Fin 1024) : val_main_v111 (F := Ideal) m (ix2 r d) = m (ix4 0 (entry r) 4 d) := by
  pointwise [val_main_v111, val_main_v110, val_main_v109, val_main_v108, val_main_v107, val_main_v106, val_main_v105, val_main_v104,
    val_main_v103]
  by_cases hr : (r : ℕ) % 4352 < 256
  · have e : entry r = 8 := Fin.ext (if_pos hr)
    simp only [hr, e, ↓reduceDIte]
  · have e : entry r = ⟨(r : ℕ) / 4352, by omega⟩ := Fin.ext (if_neg hr)
    simp only [hr, e, ↓reduceDIte]

theorem shift_at (r : Fin 34816) (d : Fin 1024) : val_main_v123 (F := Ideal) m (ix2 r d) = m (ix4 0 (entry r) 3 d) := by
  pointwise [val_main_v123, val_main_v122, val_main_v121, val_main_v120, val_main_v119, val_main_v118, val_main_v117, val_main_v116,
    val_main_v115]
  by_cases hr : (r : ℕ) % 4352 < 256
  · have e : entry r = 8 := Fin.ext (if_pos hr)
    simp only [hr, e, ↓reduceDIte]
  · have e : entry r = ⟨(r : ℕ) / 4352, by omega⟩ := Fin.ext (if_neg hr)
    simp only [hr, e, ↓reduceDIte]

theorem resid_at (r : Fin 34816) (d : Fin 1024) :
    val_main_v90 (F := Ideal) o1 o2 p y u q1 q2 s h m gn mn sd gw gb wo (ix2 r d)
      = residAt o1 o2 p y u q1 q2 s h m gn mn sd gw gb wo r d := by
  pointwise [val_main_v90, val_main_v89, gate_at, mix_at, residAt]

theorem norm_at (r : Fin 34816) (d : Fin 1024) :
    val_main_v125 (F := Ideal) o1 o2 p y u q1 q2 s h m gn mn sd gw gb wo n2 (ix2 r d)
      = normAt o1 o2 p y u q1 q2 s h m gn mn sd gw gb wo n2 r d := by
  obtain ⟨X, hX⟩ : ∃ X, normAt o1 o2 p y u q1 q2 s h m gn mn sd gw gb wo n2 r d = X := ⟨_, rfl⟩
  rw [hX]
  pointwise [val_main_v125, val_main_v124, val_main_v114, val_main_v113, val_main_v112, val_main_v102, val_main_v101, val_main_v100,
    val_main_v99, val_main_v98, val_main_v97, val_main_v96, val_main_v95, val_main_v94, val_main_v93, val_main_v92, val_main_v91,
    val_main_cst_13, val_main_cst_14, val_main_cst_15, val_main_cst_16, scale_at, shift_at, resid_at]
  exact hX

end Cert.Reference5Ideal.Mix
-- ==== Proof.MixBlock.lean ====
/- What one grid point of the output projection leaves in its blocks. -/
module

public import proofs.«01_k».proof.Proof.Gen.Kernel5Ideal.Value
public import proofs.«01_k».proof.Proof.MixPay
public import proofs.«01_k».proof.Proof.MixRef

@[expose] public section

set_option maxRecDepth 16384

noncomputable section

namespace Cert.Kernel5Ideal.Mix

open Cert.Kernel5Ideal Cert.Kernel5Ideal.Gen
open Cert.Reference3Ideal.Proj (modded entry silu)
open Cert.MixRows
open Cert.Reference5Ideal.Mix (glaAt geluAt ssmAt memAt mixAt residAt normAt)
open Idealize.ShloMosaic Idealize.ShloMosaic.TcCoe Idealize.SL.Sem
open Idealize.ShloMosaic.Pipeline (Dat)

theorem idx : ∀ t : Fin cfg0.N, (grid0.coords t 0).val = t.val ∧ win0_0.index t = ![t.val, 0] ∧ win0_1.index t = ![t.val, 0]
    ∧ win0_2.index t = ![t.val, 2] ∧ win0_3.index t = ![0, t.val, 0] ∧ win0_4.index t = ![t.val, 0]
    ∧ win0_5.index t = ![t.val, 0] ∧ win0_6.index t = ![t.val, 0] ∧ win0_7.index t = ![t.val, 1] ∧ win0_8.index t = ![t.val, 0]
    ∧ win0_9.index t = ![0, if t.val % 17 < 1 then 8 else t.val / 17, 0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![t.val, 0] ∧ win0_18.index t = ![t.val, 0] :=
  (by decide +kernel : ∀ t : Fin grid0.N, _)

/-- A point's rows lie among the array's rows. -/
theorem row_lt (t : Fin cfg0.N) {r : ℕ} (hr : r < 256) : (t : ℕ) * 256 + r < 34816 := by
  have : (t : ℕ) < 136 := t.isLt
  omega

/-- Row `r` of point `t`. -/
def rowOf (t : Fin cfg0.N) (r : Fin 256) : Fin 34816 := ⟨t * 256 + r, row_lt t r.isLt⟩

/-- All rows of a point take one entry of the modulation table. -/
theorem entry_rowOf (t : Fin cfg0.N) (r : Fin 256) :
    entry (rowOf t r) = ⟨if (t : ℕ) % 17 < 1 then 8 else t / 17, by have : (t : ℕ) < 136 := t.isLt; split <;> omega⟩ := by
  refine Fin.ext ?_
  unfold entry rowOf
  simp only
  split <;> split <;> omega

variable (m : (ℓ : Loc nD τ sig) → Buf (Elt Ideal) ℓ) (c : Dev nD) (t : Fin cfg0.N)

theorem o1_at (r : Fin 256) (k : Fin 512) :
    iblk m c 0 t (ix2 r k) = m ((c : Thread nD τ).loc main_arg0) (ix2 (rowOf t r) k) := by
  unfold rowOf
  blk_point [iblk, V, idx t]

theorem o2_at (r : Fin 256) (k : Fin 512) :
    iblk m c 1 t (ix2 r k) = m ((c : Thread nD τ).loc main_arg1) (ix2 (rowOf t r) k) := by
  unfold rowOf
  blk_point [iblk, V, idx t]

theorem u_at (r : Fin 256) (k : Fin 256) :
    iblk m c 4 t (ix2 r k) = m ((c : Thread nD τ).loc main_arg4) (ix2 (rowOf t r) k) := by
  unfold rowOf
  blk_point [iblk, V, idx t]

theorem q1_at (r : Fin 256) (k : Fin 512) :
    iblk m c 5 t (ix2 r k) = m ((c : Thread nD τ).loc main_arg5) (ix2 (rowOf t r) k) := by
  unfold rowOf
  blk_point [iblk, V, idx t]

theorem q2_at (r : Fin 256) (k : Fin 512) :
    iblk m c 6 t (ix2 r k) = m ((c : Thread nD τ).loc main_arg6) (ix2 (rowOf t r) k) := by
  unfold rowOf
  blk_point [iblk, V, idx t]

theorem h_at (r : Fin 256) (k : Fin 1024) :
    iblk m c 8 t (ix2 r k) = m ((c : Thread nD τ).loc main_arg8) (ix2 (rowOf t r) k) := by
  unfold rowOf
  blk_point [iblk, V, idx t]

theorem gn_at (k : Fin 512) : iblk m c 10 t (ix2 0 k) = m ((c : Thread nD τ).loc main_arg10) (ix2 0 k) := by
  blk_point [iblk, V, idx t]

theorem mn_at (k : Fin 512) : iblk m c 11 t (ix2 0 k) = m ((c : Thread nD τ).loc main_arg11) (ix2 0 k) := by
  blk_point [iblk, V, idx t]

theorem sd_at (k : Fin 256) : iblk m c 12 t (ix2 0 k) = m ((c : Thread nD τ).loc main_arg12) (ix2 0 k) := by
  blk_point [iblk, V, idx t]

theorem gb_at (k : Fin 256) : iblk m c 14 t (ix2 0 k) = m ((c : Thread nD τ).loc main_arg14) (ix2 0 k) := by
  blk_point [iblk, V, idx t]

theorem n2_at (k : Fin 1024) : iblk m c 16 t (ix2 0 k) = m ((c : Thread nD τ).loc main_arg16) (ix2 0 k) := by
  blk_point [iblk, V, idx t]

theorem gw_at (k l : Fin 256) : iblk m c 13 t (ix2 k l) = m ((c : Thread nD τ).loc main_arg13) (ix2 k l) := by
  blk_point [iblk, V, idx t]

theorem mod_at (r : Fin 256) (q : Fin 8) (k : Fin 1024) :
    iblk m c 9 t (ix4 0 0 q k) = m ((c : Thread nD τ).loc main_arg9) (ix4 0 (entry (rowOf t r)) q k) := by
  rw [entry_rowOf]
  blk_point [iblk, V, idx t]

theorem p_at (r : Fin 256) (k : Fin 512) :
    X0_2 m c t (ix2 r k) = m ((c : Thread nD τ).loc main_arg2) (ix2 (rowOf t r) ⟨1024 + k, by omega⟩) := by
  unfold X0_2 Pipeline.Window.fill rowOf
  refine (dif_pos (moved0_2 t _)).trans ?_
  blk_point [iblk, V, idx t]

theorem s_at (r : Fin 256) (k : Fin 512) :
    X0_7 m c t (ix2 r k) = m ((c : Thread nD τ).loc main_arg7) (ix2 (rowOf t r) ⟨512 + k, by omega⟩) := by
  unfold X0_7 Pipeline.Window.fill rowOf
  refine (dif_pos (moved0_7 t _)).trans ?_
  blk_point [iblk, V, idx t]

theorem y0_at (r k : Fin 256) :
    View.ld (iblk m c 3 t) (Rect.unit ![0, 0, 0] ![1, 256, 256] inb_S2x256x256_S1x256x256_0_0_0) (ix3 0 r k)
      = m ((c : Thread nD τ).loc main_arg3) (ix3 0 (rowOf t r) k) := by
  unfold rowOf
  blk_point [iblk, V, idx t]

theorem y1_at (r k : Fin 256) :
    View.ld (iblk m c 3 t) (Rect.unit ![1, 0, 0] ![1, 256, 256] inb_S2x256x256_S1x256x256_1_0_0) (ix3 0 r k)
      = m ((c : Thread nD τ).loc main_arg3) (ix3 1 (rowOf t r) k) := by
  unfold rowOf
  blk_point [iblk, V, idx t]

theorem w1_at (k : Fin 512) (d : Fin 1024) :
    View.ld (iblk m c 15 t) (Rect.unit ![0, 0] ![512, 1024] inb_S1280x1024_S512x1024_0_0) (ix2 k d)
      = m ((c : Thread nD τ).loc main_arg15) (ix2 ⟨k, by omega⟩ d) := by
  blk_point [iblk, V, idx t]

theorem w2_at (k : Fin 256) (d : Fin 1024) :
    View.ld (iblk m c 15 t) (Rect.unit ![512, 0] ![256, 1024] inb_S1280x1024_S256x1024_512_0) (ix2 k d)
      = m ((c : Thread nD τ).loc main_arg15) (ix2 ⟨512 + k, by omega⟩ d) := by
  blk_point [iblk, V, idx t]

theorem w3_at (k : Fin 512) (d : Fin 1024) :
    View.ld (iblk m c 15 t) (Rect.unit ![768, 0] ![512, 1024] inb_S1280x1024_S512x1024_768_0) (ix2 k d)
      = m ((c : Thread nD τ).loc main_arg15) (ix2 ⟨768 + k, by omega⟩ d) := by
  blk_point [iblk, V, idx t]

/-- The rows that a point stores first. -/
def stored : FVec Ideal S256x1024 .f32 :=
  k0_pay18 (F := Ideal)
    (k0_pay8 (iblk m c 10 t) (k0_pay3 (iblk m c 0 t) (iblk m c 1 t)) (k0_pay4 (iblk m c 0 t) (iblk m c 1 t))
      (k0_pay5 (iblk m c 0 t) (iblk m c 1 t)) (k0_pay6 (iblk m c 0 t) (iblk m c 1 t))
      (k0_pay7 (iblk m c 0 t) (iblk m c 1 t)) (X0_2 m c t))
    (k0_pay11
      (k0_pay9 (View.ld (iblk m c 3 t) (Rect.unit ![0, 0, 0] ![1, 256, 256] inb_S2x256x256_S1x256x256_0_0_0))
        (View.ld (iblk m c 3 t) (Rect.unit ![1, 0, 0] ![1, 256, 256] inb_S2x256x256_S1x256x256_1_0_0)) (iblk m c 12 t)
        (iblk m c 4 t))
      (k0_pay10 (View.ld (iblk m c 3 t) (Rect.unit ![0, 0, 0] ![1, 256, 256] inb_S2x256x256_S1x256x256_0_0_0))
        (View.ld (iblk m c 3 t) (Rect.unit ![1, 0, 0] ![1, 256, 256] inb_S2x256x256_S1x256x256_1_0_0)) (iblk m c 12 t)
        (iblk m c 4 t))
      (iblk m c 13 t) (constant S256x256 FTy.f32 0#32) (iblk m c 14 t))
    (k0_pay12 (iblk m c 5 t) (iblk m c 6 t)) (iblk m c 11 t) (k0_pay13 (iblk m c 5 t) (iblk m c 6 t))
    (k0_pay14 (iblk m c 5 t) (iblk m c 6 t)) (k0_pay15 (iblk m c 5 t) (iblk m c 6 t))
    (k0_pay16 (iblk m c 5 t) (iblk m c 6 t)) (X0_7 m c t)
    (View.ld (iblk m c 15 t) (Rect.unit ![0, 0] ![512, 1024] inb_S1280x1024_S512x1024_0_0))
    (View.ld (iblk m c 15 t) (Rect.unit ![512, 0] ![256, 1024] inb_S1280x1024_S256x1024_512_0))
    (View.ld (iblk m c 15 t) (Rect.unit ![768, 0] ![512, 1024] inb_S1280x1024_S512x1024_768_0)) (iblk m c 9 t)
    (iblk m c 8 t)

/-- The residual rows after the mixing, of the arrays the call is given. -/
def residOf (r : Fin 34816) (d : Fin 1024) : EReal :=
  residAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) r d

/-- The rows that the feed-forward reads, of the arrays the call is given. -/
def normOf (r : Fin 34816) (d : Fin 1024) : EReal :=
  normAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) r d

theorem glaRow_congr {o o' p p' g g' : Fin 512 → EReal} (ho : ∀ l, o l = o' l) (hp : ∀ l, p l = p' l) (hg : ∀ l, g l = g' l)
    (k : Fin 512) : glaRow o p g k = glaRow o' p' g' k := by
  rw [funext ho, funext hp, funext hg]

theorem memRow_congr {o o' p p' g g' : Fin 512 → EReal} (ho : ∀ l, o l = o' l) (hp : ∀ l, p l = p' l) (hg : ∀ l, g l = g' l)
    (k : Fin 512) : memRow o p g k = memRow o' p' g' k := by
  rw [funext ho, funext hp, funext hg]

theorem ssmRow_congr {z z' b b' : Fin 256 → EReal} {w w' : Fin 256 → Fin 256 → EReal} (hz : ∀ l, z l = z' l)
    (hw : ∀ k l, w k l = w' k l) (hb : ∀ l, b l = b' l) (k : Fin 256) : ssmRow z w b k = ssmRow z' w' b' k := by
  rw [funext hz, funext fun k => funext (hw k), funext hb]

theorem modded_congr {x x' g g' s s' b b' : Fin 1024 → EReal} (hx : ∀ l, x l = x' l) (hg : ∀ l, g l = g' l)
    (hs : ∀ l, s l = s' l) (hb : ∀ l, b l = b' l) (k : Fin 1024) : modded x g s b k = modded x' g' s' b' k := by
  rw [funext hx, funext hg, funext hs, funext hb]

theorem stored_at (r : Fin 256) (d : Fin 1024) : stored m c t (ix2 r d) = residOf m c (rowOf t r) d :=
  (pay18_at _ _ _ _ _ _ _ _ _ _ _ r d).trans (congrArg₂ (fun x y : EReal => x + y) (h_at m c t r d)
    (congrArg₂ (fun x y : EReal => x * y) (mod_at m c t r 2 d) (congrArg₂ (fun x y : EReal => x + y)
      (congrArg₂ (fun x y : EReal => x + y)
        (Finset.sum_congr rfl fun k _ => congrArg₂ (fun x y : EReal => x * y)
          ((pay8_at _ _ _ _ r k).trans (glaRow_congr
            (fun l => congrArg₂ (fun x y : EReal => x + y) (o1_at m c t r l) (o2_at m c t r l))
            (fun l => p_at m c t r l) (fun l => gn_at m c t l) k))
          (w1_at m c t k d))
        (Finset.sum_congr rfl fun k _ => congrArg₂ (fun x y : EReal => x * y)
          ((pay11_at _ _ _ _ _ _ r k).trans (ssmRow_congr
            (fun l => (pay9_at _ _ _ _ r l).trans (congrArg gelu (congrArg₂ (fun x y : EReal => x + y)
              (congrArg₂ (fun x y : EReal => x + y) (y0_at m c t r l) (y1_at m c t r l))
              (congrArg₂ (fun x y : EReal => x * y) (sd_at m c t l) (u_at m c t r l)))))
            (fun l l' => gw_at m c t l l') (fun l => gb_at m c t l) k))
          (w2_at m c t k d)))
      (Finset.sum_congr rfl fun k _ => congrArg₂ (fun x y : EReal => x * y)
        (memRow_congr (fun l => congrArg₂ (fun x y : EReal => x + y) (q1_at m c t r l) (q2_at m c t r l))
          (fun l => s_at m c t r l) (fun l => mn_at m c t l) k)
        (w3_at m c t k d)))))

theorem normed_at (r : Fin 256) (d : Fin 1024) :
    k0_pay1 (F := Ideal) (k0_pay17 (iblk m c 9 t)) (stored m c t) (iblk m c 16 t) (ix2 r d) = normOf m c (rowOf t r) d :=
  (pay1_at _ _ _ r d).trans (modded_congr (fun l => stored_at m c t r l) (fun l => n2_at m c t l)
    (fun l => mod_at m c t r 4 l) (fun l => mod_at m c t r 3 l) d)

/-- The array of the residual rows. -/
theorem final17 (c : Dev nD) : (dats m 0 c).arrAt 17 (cfgs 0).N = fun j : S34816x1024.Idx => residOf m c (j 0) (j 1) := by
  refine (dats m 0 c).arrAt_eq_of_covers 17 _ (by decide +kernel) fun t _ y => ?_
  blk_simp
  rw [after0_17]
  unfold outsAt0 out0_A_17
  frame_out
  obtain ⟨r, d, rfl⟩ : ∃ r d, y = ix2 r d := ⟨y 0, y 1, (ix2_eta y).symm⟩
  refine Eq.trans (stored_at m c t r d) (congrArg₂ (fun a b => residOf m c a b) (Fin.ext ?_) (Fin.ext ?_))
  all_goals
    blk_simp
    simp [rowOf, idx t]

/-- The array of the rows that the feed-forward reads. -/
theorem final18 (c : Dev nD) : (dats m 0 c).arrAt 18 (cfgs 0).N = fun j : S34816x1024.Idx => normOf m c (j 0) (j 1) := by
  refine (dats m 0 c).arrAt_eq_of_covers 18 _ (by decide +kernel) fun t _ y => ?_
  blk_simp
  rw [after0_18]
  unfold outsAt0 out0_A_18
  frame_out
  obtain ⟨r, d, rfl⟩ : ∃ r d, y = ix2 r d := ⟨y 0, y 1, (ix2_eta y).symm⟩
  refine Eq.trans (normed_at m c t r d) (congrArg₂ (fun a b => normOf m c a b) (Fin.ext ?_) (Fin.ext ?_))
  all_goals
    blk_simp
    simp [rowOf, idx t]

end Cert.Kernel5Ideal.Mix
-- ==== Proof.Mix.lean ====
/- The output projection's claims: the call's run ends with the two arrays `MixBlock.lean` names, the reference's run with the
   ones `MixRef.lean` reads, and they are the same functions of the arguments. -/
module

public import proofs.«01_k».proof.Defs
public import proofs.«01_k».proof.Proof.MixBlock
public import proofs.«01_k».proof.Proof.Gen.Kernel5.Frame
public import proofs.«01_k».proof.Proof.Gen.Reference5Ideal.Run
public import Idealize.ShloMosaic.Lib.Quiescent

@[expose] public section

set_option maxRecDepth 16384

namespace Cert.MixProof

open Idealize.ShloMosaic Idealize.ShloMosaic.TcCoe Idealize.SL.Sem

theorem frame_bits : Cert.quiescent_Kernel5 (hKernel5 := Cert.Kernel5.Gen.facts) :=
  fun m ρ _ => Cert.Kernel5.Gen.frame m ρ

theorem frame_ideal : Cert.quiescent_Kernel5Ideal (hKernel5Ideal := Cert.Kernel5Ideal.Gen.facts) :=
  fun m ρ _ => Cert.Kernel5Ideal.Gen.frame m ρ

theorem frame_reference : Cert.quiescent_Reference5Ideal (hReference5Ideal := Cert.Reference5Ideal.Gen.facts) :=
  fun m ρ _ => (θ_run Cert.Reference5Ideal.defs _ _).mono
    (fun r h => ⟨fun c => (h c).2.2, sem_eq_zero_of_no_sems (by decide) r.2⟩) (Cert.Reference5Ideal.Value.run m ρ)

/-- The one constant read exactly is the reciprocal of a head's 96 values. -/
theorem preserves : Cert.preserves_Kernel5_Kernel5Ideal :=
  IdealRules.named_const.statement Cert.Kernel5Ideal.κ "per_head" .f32 0x3C2AAAAB#32 ((96⁻¹ : ℝ) : EReal) rfl

/-- The call and its reference end with the same two arrays. -/
theorem equal : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 17 Cert.Kernel5Ideal.cfg0.N,
    fun c => (Cert.Kernel5Ideal.Gen.dats m 0 c).arrAt 18 Cert.Kernel5Ideal.cfg0.N, Cert.Kernel5Ideal.Value.run_blocks m g, ?_⟩
  refine (θ_run Cert.Reference5Ideal.defs _ _).mono (fun r h c => ⟨(h c).1.trans ?_, (h c).2.1.trans ?_, (h c).2.2⟩)
    (Cert.Reference5Ideal.Value.run m' g')
  all_goals obtain ⟨h0, h1, h2, h3, h4, h5, h6, h7, h8, h9, h10, h11, h12, h13, h14, h15, h16⟩ := hagree c
  · refine (Cert.Reference5Ideal.Read.val_main_v90_eq m' c).trans ?_
    rw [h0, h1, h2, h3, h4, h5, h6, h7, h8, h9, h10, h11, h12, h13, h14, h15]
    refine Eq.trans ?_ (Cert.Kernel5Ideal.Mix.final17 m c).symm
    funext j
    exact (congrArg _ (ix2_eta j).symm).trans (Cert.Reference5Ideal.Mix.resid_at _ _ _ _ _ _ _ _ _ _ _ _ _ _ _ _ (j 0) (j 1))
  · refine (Cert.Reference5Ideal.Read.val_main_v125_eq m' c).trans ?_
    rw [h0, h1, h2, h3, h4, h5, h6, h7, h8, h9, h10, h11, h12, h13, h14, h15, h16]
    refine Eq.trans ?_ (Cert.Kernel5Ideal.Mix.final18 m c).symm
    funext j
    exact (congrArg _ (ix2_eta j).symm).trans (Cert.Reference5Ideal.Mix.norm_at _ _ _ _ _ _ _ _ _ _ _ _ _ _ _ _ _ (j 0) (j 1))

end Cert.MixProof
-- ==== Proof.lean ====
/- The proof of the claims about the routed experts, about the dense feed-forward, about the
   input projection, about the last residual with the final norm and about the output projection: each claim is a theorem of the
   modules imported here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Pre_routed
public import proofs.«01_k».proof.Proof.Moe
public import proofs.«01_k».proof.Proof.MoeRef
public import proofs.«01_k».proof.Proof.Ffn
public import proofs.«01_k».proof.Proof.Proj
public import proofs.«01_k».proof.Proof.Resid
public import proofs.«01_k».proof.Proof.Mix
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_routed.Gen.facts,
    Cert.MoeProof.frame_bits, Cert.MoeProof.frame_ideal, Cert.MoeProof.frame_reference,
    Cert.FfnProof.frame_bits, Cert.FfnProof.frame_ideal, Cert.FfnProof.frame_reference,
    Cert.ProjProof.frame_bits, Cert.ProjProof.frame_ideal, Cert.ProjProof.frame_reference,
    Cert.ResidProof.frame_bits, Cert.ResidProof.frame_ideal, Cert.ResidProof.frame_reference,
    Cert.MixProof.frame_bits, Cert.MixProof.frame_ideal, Cert.MixProof.frame_reference,
    trivial, Cert.MoeProof.equal, trivial, Cert.FfnProof.equal, trivial, Cert.ProjProof.equal,
    trivial, Cert.ResidProof.equal,
    Cert.MixProof.preserves, Cert.MixProof.equal⟩

end Cert.Proof

end
